-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S1x2048x1024 : Shape := ⟨3, ![1, 2048, 1024]⟩
abbrev S1x2048 : Shape := ⟨2, ![1, 2048]⟩
abbrev S1024x384 : Shape := ⟨2, ![1024, 384]⟩
abbrev S384 : Shape := ⟨1, ![384]⟩
abbrev S8192x64 : Shape := ⟨2, ![8192, 64]⟩
abbrev S_ : Shape := ⟨0, ![]⟩

class Facts : Prop where
  bcast_S_S1x2048x1024 : S_.BroadcastsInDim S1x2048x1024 (![] : Fin 0 → Fin S1x2048x1024.rank)
  bcast_S_S1x2048 : S_.BroadcastsInDim S1x2048 (![] : Fin 0 → Fin S1x2048.rank)
  bcast_S_S1024x384 : S_.BroadcastsInDim S1024x384 (![] : Fin 0 → Fin S1024x384.rank)

variable [Facts]

def fn {F : FTy → Type} [FloatOps F] (main_arg0 : FVec F S1x2048x1024 .f32) (main_arg1 : FVec F S1x2048 .f32) (main_arg2 : FVec F S1024x384 .f32) (main_arg3 : FVec F S384 .f32) (main_arg4 : FVec F S8192x64 .f32) : IVec S1x2048x1024 1 × IVec S1x2048 1 × IVec S1024x384 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_cst_0 : FVec F S_ .f32 := constant S_ .f32 0x00000000#32
  let main_v3 : FVec F S1x2048 .f32 := broadcastInDim S1x2048 ![] bcast_S_S1x2048 main_cst_0
  let main_v4 : IVec S1x2048 1 := cmpf .oge main_arg1 main_v3
  let main_v5 : FVec F S1024x384 .f32 := Host.absf main_arg2
  let main_cst_1 : FVec F S_ .f32 := constant S_ .f32 0x7F800000#32
  let main_v6 : FVec F S1024x384 .f32 := broadcastInDim S1024x384 ![] bcast_S_S1024x384 main_cst_1
  let main_v7 : IVec S1024x384 1 := cmpf .olt main_v5 main_v6
  (main_v2, main_v4, main_v7)
-- ==== Kernel.lean ====
abbrev S1x2048x1024 : Shape := ⟨3, ![1, 2048, 1024]⟩
abbrev S1x2048 : Shape := ⟨2, ![1, 2048]⟩
abbrev S1024x384 : Shape := ⟨2, ![1024, 384]⟩
abbrev S384 : Shape := ⟨1, ![384]⟩
abbrev S8192x64 : Shape := ⟨2, ![8192, 64]⟩
abbrev S2048x1024 : Shape := ⟨2, ![2048, 1024]⟩
abbrev S2048x1 : Shape := ⟨2, ![2048, 1]⟩
abbrev S1x384 : Shape := ⟨2, ![1, 384]⟩
abbrev S6144x64 : Shape := ⟨2, ![6144, 64]⟩
abbrev S6x1x1024 : Shape := ⟨3, ![6, 1, 1024]⟩
abbrev S1x2048x1 : Shape := ⟨3, ![1, 2048, 1]⟩
abbrev S1 : Shape := ⟨1, ![1]⟩
abbrev S1x1x1 : Shape := ⟨3, ![1, 1, 1]⟩
abbrev S1x1024 : Shape := ⟨2, ![1, 1024]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩
abbrev S2048x64 : Shape := ⟨2, ![2048, 64]⟩
abbrev S2048 : Shape := ⟨1, ![2048]⟩
abbrev S1x1x1024 : Shape := ⟨3, ![1, 1, 1024]⟩

abbrev nBuf : Space → Nat
  | .hbm => 10
  | .vmem => 6
  | .smem => 0
  | _ => 0

abbrev bufTy : (tb : Table) → Fin (tcTables nBuf tb) → BufTy
  | .hbm, ⟨0, _⟩ => ⟨S1x2048x1024, .f32⟩
  | .hbm, ⟨1, _⟩ => ⟨S1x2048, .f32⟩
  | .hbm, ⟨2, _⟩ => ⟨S1024x384, .f32⟩
  | .hbm, ⟨3, _⟩ => ⟨S384, .f32⟩
  | .hbm, ⟨4, _⟩ => ⟨S8192x64, .f32⟩
  | .hbm, ⟨5, _⟩ => ⟨S2048x1024, .f32⟩
  | .hbm, ⟨6, _⟩ => ⟨S2048x1, .f32⟩
  | .hbm, ⟨7, _⟩ => ⟨S1x384, .f32⟩
  | .hbm, ⟨8, _⟩ => ⟨S6144x64, .f32⟩
  | .hbm, ⟨9, _⟩ => ⟨S6x1x1024, .f32⟩
  | .local _ .vmem, ⟨0, _⟩ => ⟨S2048x1024, .f32⟩
  | .local _ .vmem, ⟨1, _⟩ => ⟨S2048x1, .f32⟩
  | .local _ .vmem, ⟨2, _⟩ => ⟨S1024x384, .f32⟩
  | .local _ .vmem, ⟨3, _⟩ => ⟨S1x384, .f32⟩
  | .local _ .vmem, ⟨4, _⟩ => ⟨S6144x64, .f32⟩
  | .local _ .vmem, ⟨5, _⟩ => ⟨S6x1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x2048x1024 : Shape := ⟨3, ![1, 2048, 1024]⟩
abbrev S1x2048 : Shape := ⟨2, ![1, 2048]⟩
abbrev S1024x384 : Shape := ⟨2, ![1024, 384]⟩
abbrev S384 : Shape := ⟨1, ![384]⟩
abbrev S8192x64 : Shape := ⟨2, ![8192, 64]⟩
abbrev S1x2048x384 : Shape := ⟨3, ![1, 2048, 384]⟩
abbrev S1x1x384 : Shape := ⟨3, ![1, 1, 384]⟩
abbrev S1x2048x6x64 : Shape := ⟨4, ![1, 2048, 6, 64]⟩
abbrev S_ : Shape := ⟨0, ![]⟩
abbrev S8192 : Shape := ⟨1, ![8192]⟩
abbrev S8192x1 : Shape := ⟨2, ![8192, 1]⟩
abbrev S1x2048x6x8192 : Shape := ⟨4, ![1, 2048, 6, 8192]⟩
abbrev S1 : Shape := ⟨1, ![1]⟩
abbrev S1x1 : Shape := ⟨2, ![1, 1]⟩
abbrev S1x2048x1x1024 : Shape := ⟨4, ![1, 2048, 1, 1024]⟩
abbrev S1x2048x1 : Shape := ⟨3, ![1, 2048, 1]⟩
abbrev S1x1024 : Shape := ⟨2, ![1, 1024]⟩
abbrev S1x8 : Shape := ⟨2, ![1, 8]⟩
abbrev S1x8x1 : Shape := ⟨3, ![1, 8, 1]⟩
abbrev S1x8x2 : Shape := ⟨3, ![1, 8, 2]⟩
abbrev S1x1x1024 : Shape := ⟨3, ![1, 1, 1024]⟩
abbrev S6x1x1024 : Shape := ⟨3, ![6, 1, 1024]⟩

abbrev nBuf : Space → Nat
  | .hbm => 337
  | .vmem => 0
  | .smem => 0
  | _ => 0

abbrev hbmTy0_0 (i : Nat) : BufTy := match i % 128 with
  | 0 => ⟨S1x2048x1024, .f32⟩
  | 1 => ⟨S1x2048, .f32⟩
  | 2 => ⟨S1024x384, .f32⟩
  | 3 => ⟨S384, .f32⟩
  | 4 => ⟨S8192x64, .f32⟩
  | 5 => ⟨S1x2048x384, .f32⟩
  | 6 => ⟨S1x1x384, .f32⟩
  | 7 => ⟨S1x2048x384, .f32⟩
  | 8 => ⟨S1x2048x384, .f32⟩
  | 9 => ⟨S1x2048x6x64, .f32⟩
  | 10 => ⟨S8192x64, .f32⟩
  | 11 => ⟨S_, .f32⟩
  | 12 => ⟨S8192, .f32⟩
  | 13 => ⟨S8192x1, .f32⟩
  | 14 => ⟨S8192x1, .f32⟩
  | 15 => ⟨S_, .f32⟩
  | 16 => ⟨S_, .f32⟩
  | 17 => ⟨S8192x1, .f32⟩
  | 18 => ⟨S8192x1, .f32⟩
  | 19 => ⟨S8192x64, .f32⟩
  | 20 => ⟨S8192x64, .f32⟩
  | 21 => ⟨S1x2048x6x8192, .f32⟩
  | 22 => ⟨S_, .f32⟩
  | 23 => ⟨S1, .f32⟩
  | 24 => ⟨S1x1, .f32⟩
  | 25 => ⟨S_, .f32⟩
  | 26 => ⟨S1x1, .f32⟩
  | 27 => ⟨S1x1, .f32⟩
  | 28 => ⟨S1x2048, .f32⟩
  | 29 => ⟨S1x2048, .f32⟩
  | 30 => ⟨S1x2048x1x1024, .f32⟩
  | 31 => ⟨S1x2048x1024, .f32⟩
  | 32 => ⟨S_, .f32⟩
  | 33 => ⟨S1x2048, .f32⟩
  | 34 => ⟨S_, .f32⟩
  | 35 => ⟨S1x2048, .f32⟩
  | 36 => ⟨S1x2048, .f32⟩
  | 37 => ⟨S1x2048x1, .f32⟩
  | 38 => ⟨S1x2048x1024, .f32⟩
  | 39 => ⟨S1x2048x1024, .f32⟩
  | 40 => ⟨S1x2048x1024, .f32⟩
  | 41 => ⟨S_, .f32⟩
  | 42 => ⟨S1x2048, .f32⟩
  | 43 => ⟨S1x2048x1, .f32⟩
  | 44 => ⟨S1x2048x1024, .f32⟩
  | 45 => ⟨S1x2048x1024, .f32⟩
  | 46 => ⟨S1x1024, .f32⟩
  | 47 => ⟨S1x8, .f32⟩
  | 48 => ⟨S1x8, .i32⟩
  | 49 => ⟨S_, .f32⟩
  | 50 => ⟨S1x1024, .f32⟩
  | 51 => ⟨S1, .i32⟩
  | 52 => ⟨S1x1, .i32⟩
  | 53 => ⟨S_, .i32⟩
  | 54 => ⟨S1x1, .i32⟩
  | 55 => ⟨S1x1, .i1⟩
  | 56 => ⟨S_, .i32⟩
  | 57 => ⟨S1x1, .i32⟩
  | 58 => ⟨S1x1, .i32⟩
  | 59 => ⟨S1x1, .i32⟩
  | 60 => ⟨S_, .i32⟩
  | 61 => ⟨S1x8, .i32⟩
  | 62 => ⟨S1x8, .i1⟩
  | 63 => ⟨S_, .i32⟩
  | 64 => ⟨S1x8, .i32⟩
  | 65 => ⟨S1x8, .i32⟩
  | 66 => ⟨S1x8, .i32⟩
  | 67 => ⟨S1x8, .i32⟩
  | 68 => ⟨S1x8x1, .i32⟩
  | 69 => ⟨S1x8x1, .i32⟩
  | 70 => ⟨S1x8x2, .i32⟩
  | 71 => ⟨S1x1024, .f32⟩
  | 72 => ⟨S_, .f32⟩
  | 73 => ⟨S1, .f32⟩
  | 74 => ⟨S1x1, .f32⟩
  | 75 => ⟨S_, .f32⟩
  | 76 => ⟨S1x1, .f32⟩
  | 77 => ⟨S1x1, .f32⟩
  | 78 => ⟨S1x1024, .f32⟩
  | 79 => ⟨S1x1024, .f32⟩
  | 80 => ⟨S1x2048x1x1024, .f32⟩
  | 81 => ⟨S1x2048x1024, .f32⟩
  | 82 => ⟨S_, .f32⟩
  | 83 => ⟨S1x2048, .f32⟩
  | 84 => ⟨S_, .f32⟩
  | 85 => ⟨S1x2048, .f32⟩
  | 86 => ⟨S1x2048, .f32⟩
  | 87 => ⟨S1x2048x1, .f32⟩
  | 88 => ⟨S1x2048x1024, .f32⟩
  | 89 => ⟨S1x2048x1024, .f32⟩
  | 90 => ⟨S1x2048x1024, .f32⟩
  | 91 => ⟨S_, .f32⟩
  | 92 => ⟨S1x2048, .f32⟩
  | 93 => ⟨S1x2048x1, .f32⟩
  | 94 => ⟨S1x2048x1024, .f32⟩
  | 95 => ⟨S1x2048x1024, .f32⟩
  | 96 => ⟨S1x1024, .f32⟩
  | 97 => ⟨S1x8, .f32⟩
  | 98 => ⟨S1x8, .i32⟩
  | 99 => ⟨S_, .f32⟩
  | 100 => ⟨S1x1024, .f32⟩
  | 101 => ⟨S1, .i32⟩
  | 102 => ⟨S1x1, .i32⟩
  | 103 => ⟨S_, .i32⟩
  | 104 => ⟨S1x1, .i32⟩
  | 105 => ⟨S1x1, .i1⟩
  | 106 => ⟨S_, .i32⟩
  | 107 => ⟨S1x1, .i32⟩
  | 108 => ⟨S1x1, .i32⟩
  | 109 => ⟨S1x1, .i32⟩
  | 110 => ⟨S_, .i32⟩
  | 111 => ⟨S1x8, .i32⟩
  | 112 => ⟨S1x8, .i1⟩
  | 113 => ⟨S_, .i32⟩
  | 114 => ⟨S1x8, .i32⟩
  | 115 => ⟨S1x8, .i32⟩
  | 116 => ⟨S1x8, .i32⟩
  | 117 => ⟨S1x8, .i32⟩
  | 118 => ⟨S1x8x1, .i32⟩
  | 119 => ⟨S1x8x1, .i32⟩
  | 120 => ⟨S1x8x2, .i32⟩
  | 121 => ⟨S1x1024, .f32⟩
  | 122 => ⟨S_, .f32⟩
  | 123 => ⟨S1, .f32⟩
  | 124 => ⟨S1x1, .f32⟩
  | 125 => ⟨S_, .f32⟩
  | 126 => ⟨S1x1, .f32⟩
  | 127 => ⟨S1x1, .f32⟩
  | _ => ⟨S1x2048x1024, .f32⟩

abbrev hbmTy0_1 (i : Nat) : BufTy := match i % 128 with
  | 0 => ⟨S1x1024, .f32⟩
  | 1 => ⟨S1x1024, .f32⟩
  | 2 => ⟨S1x2048x1x1024, .f32⟩
  | 3 => ⟨S1x2048x1024, .f32⟩
  | 4 => ⟨S_, .f32⟩
  | 5 => ⟨S1x2048, .f32⟩
  | 6 => ⟨S_, .f32⟩
  | 7 => ⟨S1x2048, .f32⟩
  | 8 => ⟨S1x2048, .f32⟩
  | 9 => ⟨S1x2048x1, .f32⟩
  | 10 => ⟨S1x2048x1024, .f32⟩
  | 11 => ⟨S1x2048x1024, .f32⟩
  | 12 => ⟨S1x2048x1024, .f32⟩
  | 13 => ⟨S_, .f32⟩
  | 14 => ⟨S1x2048, .f32⟩
  | 15 => ⟨S1x2048x1, .f32⟩
  | 16 => ⟨S1x2048x1024, .f32⟩
  | 17 => ⟨S1x2048x1024, .f32⟩
  | 18 => ⟨S1x1024, .f32⟩
  | 19 => ⟨S1x8, .f32⟩
  | 20 => ⟨S1x8, .i32⟩
  | 21 => ⟨S_, .f32⟩
  | 22 => ⟨S1x1024, .f32⟩
  | 23 => ⟨S1, .i32⟩
  | 24 => ⟨S1x1, .i32⟩
  | 25 => ⟨S_, .i32⟩
  | 26 => ⟨S1x1, .i32⟩
  | 27 => ⟨S1x1, .i1⟩
  | 28 => ⟨S_, .i32⟩
  | 29 => ⟨S1x1, .i32⟩
  | 30 => ⟨S1x1, .i32⟩
  | 31 => ⟨S1x1, .i32⟩
  | 32 => ⟨S_, .i32⟩
  | 33 => ⟨S1x8, .i32⟩
  | 34 => ⟨S1x8, .i1⟩
  | 35 => ⟨S_, .i32⟩
  | 36 => ⟨S1x8, .i32⟩
  | 37 => ⟨S1x8, .i32⟩
  | 38 => ⟨S1x8, .i32⟩
  | 39 => ⟨S1x8, .i32⟩
  | 40 => ⟨S1x8x1, .i32⟩
  | 41 => ⟨S1x8x1, .i32⟩
  | 42 => ⟨S1x8x2, .i32⟩
  | 43 => ⟨S1x1024, .f32⟩
  | 44 => ⟨S_, .f32⟩
  | 45 => ⟨S1, .f32⟩
  | 46 => ⟨S1x1, .f32⟩
  | 47 => ⟨S_, .f32⟩
  | 48 => ⟨S1x1, .f32⟩
  | 49 => ⟨S1x1, .f32⟩
  | 50 => ⟨S1x1024, .f32⟩
  | 51 => ⟨S1x1024, .f32⟩
  | 52 => ⟨S1x2048x1x1024, .f32⟩
  | 53 => ⟨S1x2048x1024, .f32⟩
  | 54 => ⟨S_, .f32⟩
  | 55 => ⟨S1x2048, .f32⟩
  | 56 => ⟨S_, .f32⟩
  | 57 => ⟨S1x2048, .f32⟩
  | 58 => ⟨S1x2048, .f32⟩
  | 59 => ⟨S1x2048x1, .f32⟩
  | 60 => ⟨S1x2048x1024, .f32⟩
  | 61 => ⟨S1x2048x1024, .f32⟩
  | 62 => ⟨S1x2048x1024, .f32⟩
  | 63 => ⟨S_, .f32⟩
  | 64 => ⟨S1x2048, .f32⟩
  | 65 => ⟨S1x2048x1, .f32⟩
  | 66 => ⟨S1x2048x1024, .f32⟩
  | 67 => ⟨S1x2048x1024, .f32⟩
  | 68 => ⟨S1x1024, .f32⟩
  | 69 => ⟨S1x8, .f32⟩
  | 70 => ⟨S1x8, .i32⟩
  | 71 => ⟨S_, .f32⟩
  | 72 => ⟨S1x1024, .f32⟩
  | 73 => ⟨S1, .i32⟩
  | 74 => ⟨S1x1, .i32⟩
  | 75 => ⟨S_, .i32⟩
  | 76 => ⟨S1x1, .i32⟩
  | 77 => ⟨S1x1, .i1⟩
  | 78 => ⟨S_, .i32⟩
  | 79 => ⟨S1x1, .i32⟩
  | 80 => ⟨S1x1, .i32⟩
  | 81 => ⟨S1x1, .i32⟩
  | 82 => ⟨S_, .i32⟩
  | 83 => ⟨S1x8, .i32⟩
  | 84 => ⟨S1x8, .i1⟩
  | 85 => ⟨S_, .i32⟩
  | 86 => ⟨S1x8, .i32⟩
  | 87 => ⟨S1x8, .i32⟩
  | 88 => ⟨S1x8, .i32⟩
  | 89 => ⟨S1x8, .i32⟩
  | 90 => ⟨S1x8x1, .i32⟩
  | 91 => ⟨S1x8x1, .i32⟩
  | 92 => ⟨S1x8x2, .i32⟩
  | 93 => ⟨S1x1024, .f32⟩
  | 94 => ⟨S_, .f32⟩
  | 95 => ⟨S1, .f32⟩
  | 96 => ⟨S1x1, .f32⟩
  | 97 => ⟨S_, .f32⟩
  | 98 => ⟨S1x1, .f32⟩
  | 99 => ⟨S1x1, .f32⟩
  | 100 => ⟨S1x1024, .f32⟩
  | 101 => ⟨S1x1024, .f32⟩
  | 102 => ⟨S1x2048x1x1024, .f32⟩
  | 103 => ⟨S1x2048x1024, .f32⟩
  | 104 => ⟨S_, .f32⟩
  | 105 => ⟨S1x2048, .f32⟩
  | 106 => ⟨S_, .f32⟩
  | 107 => ⟨S1x2048, .f32⟩
  | 108 => ⟨S1x2048, .f32⟩
  | 109 => ⟨S1x2048x1, .f32⟩
  | 110 => ⟨S1x2048x1024, .f32⟩
  | 111 => ⟨S1x2048x1024, .f32⟩
  | 112 => ⟨S1x2048x1024, .f32⟩
  | 113 => ⟨S_, .f32⟩
  | 114 => ⟨S1x2048, .f32⟩
  | 115 => ⟨S1x2048x1, .f32⟩
  | 116 => ⟨S1x2048x1024, .f32⟩
  | 117 => ⟨S1x2048x1024, .f32⟩
  | 118 => ⟨S1x1024, .f32⟩
  | 119 => ⟨S1x8, .f32⟩
  | 120 => ⟨S1x8, .i32⟩
  | 121 => ⟨S_, .f32⟩
  | 122 => ⟨S1x1024, .f32⟩
  | 123 => ⟨S1, .i32⟩
  | 124 => ⟨S1x1, .i32⟩
  | 125 => ⟨S_, .i32⟩
  | 126 => ⟨S1x1, .i32⟩
  | 127 => ⟨S1x1, .i1⟩
  | _ => ⟨S1x2048x1024, .f32⟩

abbrev hbmTy0_2 (i : Nat) : BufTy := match i % 128 with
  | 0 => ⟨S_, .i32⟩
  | 1 => ⟨S1x1, .i32⟩
  | 2 => ⟨S1x1, .i32⟩
  | 3 => ⟨S1x1, .i32⟩
  | 4 => ⟨S_, .i32⟩
  | 5 => ⟨S1x8, .i32⟩
  | 6 => ⟨S1x8, .i1⟩
  | 7 => ⟨S_, .i32⟩
  | 8 => ⟨S1x8, .i32⟩
  | 9 => ⟨S1x8, .i32⟩
  | 10 => ⟨S1x8, .i32⟩
  | 11 => ⟨S1x8, .i32⟩
  | 12 => ⟨S1x8x1, .i32⟩
  | 13 => ⟨S1x8x1, .i32⟩
  | 14 => ⟨S1x8x2, .i32⟩
  | 15 => ⟨S1x1024, .f32⟩
  | 16 => ⟨S_, .f32⟩
  | 17 => ⟨S1, .f32⟩
  | 18 => ⟨S1x1, .f32⟩
  | 19 => ⟨S_, .f32⟩
  | 20 => ⟨S1x1, .f32⟩
  | 21 => ⟨S1x1, .f32⟩
  | 22 => ⟨S1x1024, .f32⟩
  | 23 => ⟨S1x1024, .f32⟩
  | 24 => ⟨S1x2048x1x1024, .f32⟩
  | 25 => ⟨S1x2048x1024, .f32⟩
  | 26 => ⟨S_, .f32⟩
  | 27 => ⟨S1x2048, .f32⟩
  | 28 => ⟨S_, .f32⟩
  | 29 => ⟨S1x2048, .f32⟩
  | 30 => ⟨S1x2048, .f32⟩
  | 31 => ⟨S1x2048x1, .f32⟩
  | 32 => ⟨S1x2048x1024, .f32⟩
  | 33 => ⟨S1x2048x1024, .f32⟩
  | 34 => ⟨S1x2048x1024, .f32⟩
  | 35 => ⟨S_, .f32⟩
  | 36 => ⟨S1x2048, .f32⟩
  | 37 => ⟨S1x2048x1, .f32⟩
  | 38 => ⟨S1x2048x1024, .f32⟩
  | 39 => ⟨S1x2048x1024, .f32⟩
  | 40 => ⟨S1x1024, .f32⟩
  | 41 => ⟨S1x8, .f32⟩
  | 42 => ⟨S1x8, .i32⟩
  | 43 => ⟨S_, .f32⟩
  | 44 => ⟨S1x1024, .f32⟩
  | 45 => ⟨S1, .i32⟩
  | 46 => ⟨S1x1, .i32⟩
  | 47 => ⟨S_, .i32⟩
  | 48 => ⟨S1x1, .i32⟩
  | 49 => ⟨S1x1, .i1⟩
  | 50 => ⟨S_, .i32⟩
  | 51 => ⟨S1x1, .i32⟩
  | 52 => ⟨S1x1, .i32⟩
  | 53 => ⟨S1x1, .i32⟩
  | 54 => ⟨S_, .i32⟩
  | 55 => ⟨S1x8, .i32⟩
  | 56 => ⟨S1x8, .i1⟩
  | 57 => ⟨S_, .i32⟩
  | 58 => ⟨S1x8, .i32⟩
  | 59 => ⟨S1x8, .i32⟩
  | 60 => ⟨S1x8, .i32⟩
  | 61 => ⟨S1x8, .i32⟩
  | 62 => ⟨S1x8x1, .i32⟩
  | 63 => ⟨S1x8x1, .i32⟩
  | 64 => ⟨S1x8x2, .i32⟩
  | 65 => ⟨S1x1024, .f32⟩
  | 66 => ⟨S_, .f32⟩
  | 67 => ⟨S1, .f32⟩
  | 68 => ⟨S1x1, .f32⟩
  | 69 => ⟨S_, .f32⟩
  | 70 => ⟨S1x1, .f32⟩
  | 71 => ⟨S1x1, .f32⟩
  | 72 => ⟨S1x1024, .f32⟩
  | 73 => ⟨S1x1024, .f32⟩
  | 74 => ⟨S1x1x1024, .f32⟩
  | 75 => ⟨S1x1x1024, .f32⟩
  | 76 => ⟨S1x1x1024, .f32⟩
  | 77 => ⟨S1x1x1024, .f32⟩
  | 78 => ⟨S1x1x1024, .f32⟩
  | 79 => ⟨S1x1x1024, .f32⟩
  | 80 => ⟨S6x1x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_values : Ref sig .tc := ⟨.hbm, 47, rfl⟩
abbrev main_indices : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_values_14 : Ref sig .tc := ⟨.hbm, 97, rfl⟩
abbrev main_indices_15 : Ref sig .tc := ⟨.hbm, 98, rfl⟩
abbrev main_cst_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_19 : Ref sig .tc := ⟨.hbm, 110, rfl⟩
abbrev main_v76 : Ref sig .tc := ⟨.hbm, 111, rfl⟩
abbrev main_v77 : Ref sig .tc := ⟨.hbm, 112, rfl⟩
abbrev main_c_20 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_21 : Ref sig .tc := ⟨.hbm, 122, rfl⟩
abbrev main_v86 : Ref sig .tc := ⟨.hbm, 123, rfl⟩
abbrev main_v87 : Ref sig .tc := ⟨.hbm, 124, rfl⟩
abbrev main_cst_22 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_cst_24 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_25 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_values_26 : Ref sig .tc := ⟨.hbm, 147, rfl⟩
abbrev main_indices_27 : Ref sig .tc := ⟨.hbm, 148, rfl⟩
abbrev main_cst_28 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_c_29 : Ref sig .tc := ⟨.hbm, 153, rfl⟩
abbrev main_v109 : Ref sig .tc := ⟨.hbm, 154, rfl⟩
abbrev main_v110 : Ref sig .tc := ⟨.hbm, 155, rfl⟩
abbrev main_c_30 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_c_31 : Ref sig .tc := ⟨.hbm, 160, rfl⟩
abbrev main_v114 : Ref sig .tc := ⟨.hbm, 161, rfl⟩
abbrev main_v115 : Ref sig .tc := ⟨.hbm, 162, rfl⟩
abbrev main_c_32 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_33 : Ref sig .tc := ⟨.hbm, 172, rfl⟩
abbrev main_v124 : Ref sig .tc := ⟨.hbm, 173, rfl⟩
abbrev main_v125 : Ref sig .tc := ⟨.hbm, 174, rfl⟩
abbrev main_cst_34 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_35 : Ref sig .tc := ⟨.hbm, 182, rfl⟩
abbrev main_v132 : Ref sig .tc := ⟨.hbm, 183, rfl⟩
abbrev main_cst_36 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_37 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_values_38 : Ref sig .tc := ⟨.hbm, 197, rfl⟩
abbrev main_indices_39 : Ref sig .tc := ⟨.hbm, 198, rfl⟩
abbrev main_cst_40 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_c_41 : Ref sig .tc := ⟨.hbm, 203, rfl⟩
abbrev main_v147 : Ref sig .tc := ⟨.hbm, 204, rfl⟩
abbrev main_v148 : Ref sig .tc := ⟨.hbm, 205, rfl⟩
abbrev main_c_42 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_c_43 : Ref sig .tc := ⟨.hbm, 210, rfl⟩
abbrev main_v152 : Ref sig .tc := ⟨.hbm, 211, rfl⟩
abbrev main_v153 : Ref sig .tc := ⟨.hbm, 212, rfl⟩
abbrev main_c_44 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_45 : Ref sig .tc := ⟨.hbm, 222, rfl⟩
abbrev main_v162 : Ref sig .tc := ⟨.hbm, 223, rfl⟩
abbrev main_v163 : Ref sig .tc := ⟨.hbm, 224, rfl⟩
abbrev main_cst_46 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_cst_47 : Ref sig .tc := ⟨.hbm, 232, rfl⟩
abbrev main_v170 : Ref sig .tc := ⟨.hbm, 233, rfl⟩
abbrev main_cst_48 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_49 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_values_50 : Ref sig .tc := ⟨.hbm, 247, rfl⟩
abbrev main_indices_51 : Ref sig .tc := ⟨.hbm, 248, rfl⟩
abbrev main_cst_52 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_c_53 : Ref sig .tc := ⟨.hbm, 253, rfl⟩
abbrev main_v185 : Ref sig .tc := ⟨.hbm, 254, rfl⟩
abbrev main_v186 : Ref sig .tc := ⟨.hbm, 255, rfl⟩
abbrev main_c_54 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_c_55 : Ref sig .tc := ⟨.hbm, 260, rfl⟩
abbrev main_v190 : Ref sig .tc := ⟨.hbm, 261, rfl⟩
abbrev main_v191 : Ref sig .tc := ⟨.hbm, 262, rfl⟩
abbrev main_c_56 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_cst_57 : Ref sig .tc := ⟨.hbm, 272, rfl⟩
abbrev main_v200 : Ref sig .tc := ⟨.hbm, 273, rfl⟩
abbrev main_v201 : Ref sig .tc := ⟨.hbm, 274, rfl⟩
abbrev main_cst_58 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_cst_59 : Ref sig .tc := ⟨.hbm, 282, rfl⟩
abbrev main_v208 : Ref sig .tc := ⟨.hbm, 283, rfl⟩
abbrev main_cst_60 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_cst_61 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_values_62 : Ref sig .tc := ⟨.hbm, 297, rfl⟩
abbrev main_indices_63 : Ref sig .tc := ⟨.hbm, 298, rfl⟩
abbrev main_cst_64 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_c_65 : Ref sig .tc := ⟨.hbm, 303, rfl⟩
abbrev main_v223 : Ref sig .tc := ⟨.hbm, 304, rfl⟩
abbrev main_v224 : Ref sig .tc := ⟨.hbm, 305, rfl⟩
abbrev main_c_66 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_c_67 : Ref sig .tc := ⟨.hbm, 310, rfl⟩
abbrev main_v228 : Ref sig .tc := ⟨.hbm, 311, rfl⟩
abbrev main_v229 : Ref sig .tc := ⟨.hbm, 312, rfl⟩
abbrev main_c_68 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_cst_69 : Ref sig .tc := ⟨.hbm, 322, rfl⟩
abbrev main_v238 : Ref sig .tc := ⟨.hbm, 323, rfl⟩
abbrev main_v239 : Ref sig .tc := ⟨.hbm, 324, rfl⟩
abbrev main_cst_70 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

/-! # The runs: every program ends, and leaves its arguments and counters as they were -/

namespace Cert.Proof.Frames

open Idealize.ShloMosaic Idealize.SL.Sem

/-- The side conditions of the precondition's own program. -/
theorem preFacts : Cert.Pre_admissible.Facts := by
  constructor <;> decide

/-- The kernel ends with its arguments unchanged and all counters at zero. -/
theorem kernel : Cert.quiescent_Kernel := fun m ρ _ => Cert.Kernel.Gen.frame m ρ

/-- The same of the kernel over exact numbers. -/
theorem kernelIdeal : Cert.quiescent_KernelIdeal := fun m ρ _ => Cert.KernelIdeal.Gen.frame m ρ

/-- The same of the reference over exact numbers: it declares no counter. -/
theorem referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.Proof.Frames

end
-- ==== Proof.Rows.lean ====
module

public import proofs.«01_k».proof.Proof.Gen.KernelIdeal.Frame

@[expose] public section

noncomputable section

/-! # One group of the kernel as a function of its blocks

The kernel's body treats six groups the same way. Here the work of one group is written once, as vector functions of
the group's blocks, and each of the six stores is shown to be that function. -/

namespace Cert.Proof.Rows

open Cert.KernelIdeal Cert.KernelIdeal.Gen Idealize.ShloMosaic

variable {F : FTy → Type} [FloatOps F]

/-- The rows of a block of embeddings, each divided by its clamped length. -/
def embV (e : FVec F S1024x64 .f32) : FVec F S1024x64 .f32 :=
  divf e (broadcastTo S1024x64
    (maximumf
      (sqrt (shapeCast S1024x1 (multiReduction .add [1] S1024 (mulf e e) 0x00000000#32 reduces_S1024x64_S1024 (.inl rfl) rfl)
        shapeCasts_S1024_S1024x1))
      (broadcast S1024x1 (Scalar.ofBits .f32 0x2B8CBCCC#32))) broadcasts_S1024x1_S1024x64)

/-- The projected activations of one group. -/
def projV (x : FVec F S2048x1024 .f32) (w : Vec F S1024x64 .f32) (b : FVec F S1x64 .f32) : FVec F S2048x64 .f32 :=
  addf (matmul dot_S2048x1024_S1024x64_S2048x64_1_0_0_1_n_n none x w (constant S2048x64 .f32 0x00000000#32))
    (broadcastTo S2048x64 b broadcasts_S1x64_S2048x64)

/-- The scores of one group: every token against every embedding. -/
def logitsV (x : FVec F S2048x1024 .f32) (w : Vec F S1024x64 .f32) (b : Vec F S1x64 .f32) (e : Vec F S1024x64 .f32) :
    FVec F S2048x1024 .f32 :=
  matmul dot_S2048x64_S1024x64_S2048x1024_1_1_0_0_n_n none
    (projV x w (shapeCast S1x64 b shapeCasts_S1x64_S1x64))
    (embV (shapeCast S1024x64 e shapeCasts_S1024x64_S1024x64)) (constant S2048x1024 .f32 0x00000000#32)

/-- The exponentials of the scores, each token's largest score taken off first. -/
def expV (l : FVec F S2048x1024 .f32) : FVec F S2048x1024 .f32 :=
  exp (subf l (broadcastTo S2048x1024
    (shapeCast S2048x1 (multiReduction .maximumf [1] S2048 l 0xFF800000#32 reduces_S2048x1024_S2048 (.inl rfl) rfl)
      shapeCasts_S2048_S2048x1) broadcasts_S2048x1_S2048x1024))

/-- The pooled weights of one group: the exponentials weighted by importance over the token's total, summed over tokens. -/
def poolV (p : FVec F S2048x1 .f32) (l : FVec F S2048x1024 .f32) : FVec F S1x1024 .f32 :=
  shapeCast S1x1024
    (multiReduction .add [0] S1024
      (mulf (expV l) (broadcastTo S2048x1024
        (divf p (shapeCast S2048x1
          (multiReduction .add [1] S2048 (expV l) 0x00000000#32 reduces_S2048x1024_S2048 (.inl rfl) rfl)
          shapeCasts_S2048_S2048x1)) broadcasts_S2048x1_S2048x1024))
      0x00000000#32 reduces_S2048x1024_S1024 (.inl rfl) rfl) shapeCasts_S1024_S1x1024

/-- The largest entry of a row. -/
def topV (v : FVec F S1x1024 .f32) : F .f32 :=
  extractAt ![0, 0, 0] (shapeCast S1x1x1
    (multiReduction .maximumf [1, 2] S1 (shapeCast S1x1x1024 v shapeCasts_S1x1024_S1x1x1024) 0xFF800000#32
      reduces_S1x1x1024_S1 (.inl rfl) rfl) shapeCasts_S1_S1x1x1) inpos_S1x1x1_p0_0_0

/-- The first place at which a row holds its largest entry. -/
def argV (ii : IVec S1x1024 32) (v : FVec F S1x1024 .f32) : BitVec 32 :=
  extractAt ![0, 0, 0] (shapeCast S1x1x1
    (multiReductionI .minsi [1, 2] S1
      (shapeCast S1x1x1024 (select (cmpf .oeq v (broadcast S1x1024 (topV v))) ii (broadcast S1x1024 1024#32))
        shapeCasts_S1x1024_S1x1x1024) 2147483647#32
      reduces_S1x1x1024_S1 rfl) shapeCasts_S1_S1x1x1) inpos_S1x1x1_p0_0_0

/-- The mask of the place a round selects. -/
def selV (ii : IVec S1x1024 32) (v : FVec F S1x1024 .f32) : IVec S1x1024 1 :=
  cmpi .eq ii (broadcast S1x1024 (argV ii v))

/-- The row left to search after `k` rounds: every place selected so far set to minus one. -/
def leftV (ii : IVec S1x1024 32) (p : FVec F S1x1024 .f32) : Nat → FVec F S1x1024 .f32
  | 0 => p
  | k + 1 => select (selV ii (leftV ii p k)) (broadcast S1x1024 (Scalar.ofBits .f32 0xBF800000#32)) (leftV ii p k)

/-- The entries kept after `k` rounds, zero elsewhere. -/
def keptV (ii : IVec S1x1024 32) (p : FVec F S1x1024 .f32) : Nat → FVec F S1x1024 .f32
  | 0 => broadcast S1x1024 (Scalar.ofBits .f32 0x00000000#32)
  | k + 1 => select (selV ii (leftV ii p k)) p (keptV ii p k)

/-- A row divided by its total plus a small constant, as a block of the result. -/
def normV (s : FVec F S1x1024 .f32) : FVec F S1x1x1024 .f32 :=
  shapeCast S1x1x1024 (divf s (broadcast S1x1024 (Scalar.addf
    (extractAt ![0, 0, 0] (shapeCast S1x1x1
      (multiReduction .add [1, 2] S1 (shapeCast S1x1x1024 s shapeCasts_S1x1024_S1x1x1024) 0x00000000#32
        reduces_S1x1x1024_S1 (.inl rfl) rfl) shapeCasts_S1_S1x1x1) inpos_S1x1x1_p0_0_0)
    (Scalar.ofBits .f32 0x322BCC77#32)))) shapeCasts_S1x1024_S1x1x1024

/-- The row counter of the kernel. -/
def iiV : IVec S1x1024 32 := iota .tc S1x1024 32 [1] iota_S1x1024_d1_w32

/-- One group's block of the result. -/
def rowV (x : Vec F S2048x1024 .f32) (p : Vec F S2048x1 .f32) (w : Vec F S1024x64 .f32) (b : Vec F S1x64 .f32)
    (e : Vec F S1024x64 .f32) : FVec F S1x1x1024 .f32 :=
  normV (keptV iiV (poolV (k0_pay3 p) (logitsV (k0_pay2 x) w b e)) 8)

/-- What the body leaves in the result's buffer: one block per group, each the row function of that group's columns of
    the projection, its part of the bias, and its rows of the embeddings. -/
theorem out_eq (x0 : Vec F S2048x1024 .f32) (x1 : Vec F S2048x1 .f32) (x2 : Vec F S1024x384 .f32) (x3 : Vec F S1x384 .f32)
    (x4 : Vec F S6144x64 .f32) :
    out0_5 x0 x1 x2 x3 x4 = View.canon [
      ⟨r0_25, rowV (View.ld x0 r0_0) (View.ld x1 r0_1) (View.ld x2 r0_22) (View.ld x3 r0_23) (View.ld x4 r0_24)⟩,
      ⟨r0_21, rowV (View.ld x0 r0_0) (View.ld x1 r0_1) (View.ld x2 r0_18) (View.ld x3 r0_19) (View.ld x4 r0_20)⟩,
      ⟨r0_17, rowV (View.ld x0 r0_0) (View.ld x1 r0_1) (View.ld x2 r0_14) (View.ld x3 r0_15) (View.ld x4 r0_16)⟩,
      ⟨r0_13, rowV (View.ld x0 r0_0) (View.ld x1 r0_1) (View.ld x2 r0_10) (View.ld x3 r0_11) (View.ld x4 r0_12)⟩,
      ⟨r0_9, rowV (View.ld x0 r0_0) (View.ld x1 r0_1) (View.ld x2 r0_6) (View.ld x3 r0_7) (View.ld x4 r0_8)⟩,
      ⟨r0_5, rowV (View.ld x0 r0_0) (View.ld x1 r0_1) (View.ld x2 r0_2) (View.ld x3 r0_3) (View.ld x4 r0_4)⟩] := rfl

end Cert.Proof.Rows

end
-- ==== Proof.Pick.lean ====
module

public import Idealize.ShloMosaic.Lib.SortFacts
public import Idealize.ShloMosaic.PureOps.Ideal

@[expose] public section

noncomputable section

/-! # The order in which entries of a row are picked

A row of extended reals is ranked from the largest entry down, equal entries by their place. The stable sort lists the
places in that order, and the next place in it is always the first one that holds the largest entry left. -/

namespace Cert.Proof.Pick

open Idealize.ShloMosaic

variable {N : Nat} (p : Fin N → EReal)

/-- Place `a` comes before place `b`: its entry is larger, or equal at a lower place. -/
def Beats (a b : Fin N) : Prop := p b < p a ∨ (p a = p b ∧ a < b)

/-- The sort's relation: the entry is larger. -/
def larger (a b : Fin N) : Bool := decide (p b < p a)

/-- The places, best first. -/
def order : Fin N → Fin N := sortedFrom (larger p)

/-- Coming before is transitive. -/
theorem Beats.trans {a b c : Fin N} (h : Beats p a b) (h' : Beats p b c) : Beats p a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- Putting a place into a ranked list of later places keeps the list ranked. -/
theorem pairwise_insert (a : Fin N) (l : List (Fin N)) (hl : l.Pairwise (Beats p)) (ha : ∀ b ∈ l, a < b) :
    (insertBefore (larger p) a l).Pairwise (Beats p) := by
  induction l with
  | nil => exact List.pairwise_singleton _ _
  | cons b l ih =>
    obtain ⟨hb, hl'⟩ := List.pairwise_cons.1 hl
    unfold insertBefore
    split
    · rename_i hba
      have hba' : p a < p b := of_decide_eq_true hba
      refine List.pairwise_cons.2 ⟨fun c hc => ?_, ih hl' fun c hc => ha c (List.mem_cons_of_mem _ hc)⟩
      rcases List.mem_cons.1 ((perm_insertBefore (larger p) a l).mem_iff.1 hc) with rfl | hc
      · exact .inl hba'
      · exact hb c hc
    · rename_i hba
      have hba' : p b ≤ p a := not_lt.1 fun h => hba (decide_eq_true h)
      have hab : Beats p a b := by
        rcases hba'.lt_or_eq with h | h
        · exact .inl h
        · exact .inr ⟨h.symm, ha b List.mem_cons_self⟩
      refine List.pairwise_cons.2 ⟨fun c hc => ?_, hl⟩
      rcases List.mem_cons.1 hc with rfl | hc
      · exact hab
      · exact hab.trans p (hb c hc)

/-- The stable sort of a list in increasing places is ranked. -/
theorem pairwise_sort (l : List (Fin N)) (hl : l.Pairwise (· < ·)) : (stableSort (larger p) l).Pairwise (Beats p) := by
  induction l with
  | nil => exact List.Pairwise.nil
  | cons a l ih =>
    obtain ⟨ha, hl'⟩ := List.pairwise_cons.1 hl
    unfold stableSort
    exact pairwise_insert p a _ (ih hl') fun b hb => ha b ((perm_stableSort _ l).mem_iff.1 hb)

/-- A position of the order comes before every later one. -/
theorem order_beats {i j : Fin N} (h : i < j) : Beats p (order p i) (order p j) := by
  have hp := pairwise_sort p (List.finRange N) (List.pairwise_lt_finRange N)
  exact List.pairwise_iff_get.1 hp _ _ h

/-- The order visits no place twice. -/
theorem order_injective : Function.Injective (order p) := sortedFrom_injective _

/-- A place not visited before position `r` is the one visited there, or comes after it. -/
theorem eq_or_beats (r m : Fin N) (h : ∀ s < r, order p s ≠ m) : m = order p r ∨ Beats p (order p r) m := by
  obtain ⟨k, rfl⟩ := sortedFrom_surjective (larger p) m
  rcases lt_trichotomy k r with hk | rfl | hk
  · exact absurd rfl (h k hk)
  · exact .inl rfl
  · exact .inr (order_beats p hk)

/-- Place `n` is one of the best `k`. -/
def Top (k : Nat) (n : Fin N) : Prop := ∃ s : Fin N, s.val < k ∧ order p s = n

/-- The best `k + 1` are the best `k` and the next. -/
theorem top_succ (k : Fin N) (n : Fin N) : Top p (k.val + 1) n ↔ n = order p k ∨ Top p k.val n := by
  constructor
  · rintro ⟨s, hs, rfl⟩
    rcases Nat.lt_succ_iff_lt_or_eq.1 hs with h | h
    · exact .inr ⟨s, h, rfl⟩
    · exact .inl (congrArg _ (Fin.ext h))
  · rintro (rfl | ⟨s, hs, rfl⟩)
    · exact ⟨k, Nat.lt_succ_self _, rfl⟩
    · exact ⟨s, Nat.lt_succ_of_lt hs, rfl⟩

/-- None is among the best none. -/
theorem not_top_zero (n : Fin N) : ¬ Top p 0 n := fun ⟨_, h, _⟩ => absurd h (Nat.not_lt_zero _)

/-- The next place in the order is not among those before it. -/
theorem not_top_order (k : Fin N) : ¬ Top p k.val (order p k) := by
  rintro ⟨s, hs, he⟩
  exact absurd (congrArg Fin.val (order_injective p he)) (Nat.ne_of_lt hs)

open Classical in
/-- The row left to search once the best `k` are set to minus one. -/
def left (k : Nat) (n : Fin N) : EReal := if Top p k n then -1 else p n

open Classical in
/-- The row that keeps the best `k` and is zero elsewhere. -/
def kept (k : Nat) (n : Fin N) : EReal := if Top p k n then p n else 0

/-- Minus one is below zero. -/
theorem neg_one_lt : (-1 : EReal) < 0 := by
  rw [← EReal.coe_one, ← EReal.coe_neg]
  exact_mod_cast neg_one_lt_zero (R := ℝ)

variable (hp : ∀ n, 0 ≤ p n)
include hp

/-- Nothing left is larger than the next entry in the order. -/
theorem left_le (k n : Fin N) : left p k.val n ≤ p (order p k) := by
  unfold left
  split
  · exact neg_one_lt.le.trans (hp _)
  · rename_i h
    rcases eq_or_beats p k n fun s hs he => h ⟨s, hs, he⟩ with rfl | h | ⟨h, -⟩
    · exact le_rfl
    · exact h.le
    · exact h.ge

omit hp in
/-- The next entry in the order is still there. -/
theorem left_order (k : Fin N) : left p k.val (order p k) = p (order p k) := if_neg (not_top_order p k)

/-- Of the places holding the largest entry left the next in the order is the lowest. -/
theorem order_le_of_left_eq (k n : Fin N) (h : left p k.val n = p (order p k)) : order p k ≤ n := by
  unfold left at h
  split at h
  · have := hp (order p k)
    rw [← h] at this
    exact absurd this (not_le.2 neg_one_lt)
  · rename_i hn
    rcases eq_or_beats p k n fun s hs he => hn ⟨s, hs, he⟩ with rfl | h' | ⟨-, h'⟩
    · exact le_rfl
    · exact absurd h h'.ne
    · exact h'.le

omit hp in
/-- Setting the next place to minus one gives the row left after one more. -/
theorem left_succ (k n : Fin N) : left p (k.val + 1) n = if n = order p k then -1 else left p k.val n := by
  unfold left
  by_cases h : n = order p k <;> by_cases h' : Top p k.val n <;> simp [top_succ, h, h']

omit hp in
/-- Keeping the next place too gives the row kept after one more. -/
theorem kept_succ (k n : Fin N) : kept p (k.val + 1) n = if n = order p k then p n else kept p k.val n := by
  unfold kept
  by_cases h : n = order p k <;> by_cases h' : Top p k.val n <;> simp [top_succ, h, h']

end Cert.Proof.Pick

end
-- ==== Proof.Rounds.lean ====
module

public import proofs.«01_k».proof.Proof.Rows
public import proofs.«01_k».proof.Proof.Pick
public import Idealize.ShloMosaic.PureOps.Ideal.Laws
public import Idealize.ShloMosaic.Lib.ValueLayout

@[expose] public section

noncomputable section

/-! # The kernel's selection rounds keep the best entries of the row -/

namespace Cert.Proof.Rounds

open Cert.KernelIdeal Cert.KernelIdeal.Gen Idealize.ShloMosaic Idealize.ShloMosaic.ValueIdx Cert.Proof.Rows Cert.Proof.Pick

/-- A row vector as a function of its lane. -/
def lanes (v : FVec Ideal S1x1024 .f32) (n : Fin 1024) : EReal := v (ix2 (0 : Fin 1) n)

/-- A row viewed with an extra unit axis reads the row at the lane. -/
theorem cast_lane {α : Type} (v : S1x1024.Idx → α) (i : S1x1x1024.Idx) :
    shapeCast S1x1x1024 v shapeCasts_S1x1024_S1x1x1024 i = v (ix2 (0 : Fin 1) (i 2)) := by
  refine (congrArg _ (eq_ix3 (n0 := 1) (n1 := 1) (n2 := 1024) i)).trans ((shapeCast_ab_1ab_apply _ _ _ _ _).trans ?_)
  exact congrArg v (congrArg (fun u : Fin 1 => ix2 u (i 2)) (Subsingleton.elim _ _))

/-- A vector of one entry has one index. -/
theorem one_index (i j : S1.Idx) : i = j := funext fun a => by
  match a with
  | ⟨0, _⟩ => exact Subsingleton.elim (α := Fin 1) _ _

/-- The scalar read out of a vector of one entry is that entry. -/
theorem scalar_eq {α : Type} (x : S1.Idx → α) :
    extractAt ![0, 0, 0] (shapeCast S1x1x1 x shapeCasts_S1_S1x1x1) inpos_S1x1x1_p0_0_0 = x (ix1 (0 : Fin 1)) :=
  congrArg x (one_index _ _)

/-- The lane alone indexes a row with unit axes before it. -/
def laneEquiv : S1x1x1024.Idx ≃ Fin 1024 where
  toFun i := i 2
  invFun n := ix3 (0 : Fin 1) (0 : Fin 1) n
  left_inv i := funext fun a => by
    match a with
    | ⟨0, _⟩ => exact Subsingleton.elim (α := Fin 1) _ _
    | ⟨1, _⟩ => exact Subsingleton.elim (α := Fin 1) _ _
    | ⟨2, _⟩ => rfl
  right_inv _ := rfl

/-- Minus infinity, as the pattern the reductions start from. -/
theorem ofBits_bot : Ideal.ofBits .f32 0xFF800000#32 = ⊥ := by simp [Ideal.ofBits, Ideal.ieee]

/-- The largest entry of a row is the entry no other exceeds. -/
theorem topV_eq (v : FVec Ideal S1x1024 .f32) (n : Fin 1024) (h : ∀ m, lanes v m ≤ lanes v n) : topV v = lanes v n := by
  have e : topV v = (Finset.univ : Finset S1x1x1024.Idx).fold max (⊥ : EReal) fun i => lanes v (i 2) := by
    unfold topV
    refine ((scalar_eq _).trans (multiReduction_maximumf_eq_fold _ _ _ _ _ _)).trans ?_
    rw [Finset.filter_true_of_mem fun i _ => one_index _ _]
    refine (congrArg₂ (fun b f => Finset.univ.fold max b f) ofBits_bot (funext fun i => ?_))
    exact cast_lane v i
  rw [e]
  refine le_antisymm ((Finset.fold_max_le _).2 ⟨bot_le, fun i _ => h _⟩) ((Finset.le_fold_max _).2 (.inr ⟨ix3 0 0 n, Finset.mem_univ _, le_rfl⟩))

/-- The signed minimum of two words is the minimum of their signed values. -/
theorem toInt_minsi (x y : BitVec 32) : (IntOp.minsi x y).toInt = min x.toInt y.toInt := by
  simp only [IntOp.minsi, BitVec.slt, decide_eq_true_eq]
  split_ifs <;> omega

/-- A fold of signed minima is an entry that no other goes below. -/
theorem fold_minsi_eq {ι : Type} [Fintype ι] (f : ι → BitVec 32) (b : BitVec 32) (i : ι) (hb : (f i).toInt ≤ b.toInt)
    (h : ∀ j, (f i).toInt ≤ (f j).toInt) : Finset.univ.fold IntOp.minsi b f = f i := by
  apply BitVec.eq_of_toInt_eq
  rw [← Finset.fold_hom (op := IntOp.minsi) (op' := min) (m := BitVec.toInt) toInt_minsi]
  exact le_antisymm ((Finset.fold_min_le _).2 (.inr ⟨i, Finset.mem_univ _, le_rfl⟩)) ((Finset.le_fold_min _).2 ⟨hb, fun j _ => h j⟩)

/-- The row counter at lane `n` is `n`. -/
theorem iiV_lane (n : Fin 1024) : iiV (ix2 (0 : Fin 1) n) = BitVec.ofNat 32 n.val := iota_single_apply _ _ _ _ _ _

/-- A small number as a word has itself as its signed value. -/
theorem toInt_small (n : Nat) (h : n ≤ 1024) : (BitVec.ofNat 32 n).toInt = n := by
  have e : (BitVec.ofNat 32 n).toNat = n := by rw [BitVec.toNat_ofNat]; omega
  rw [BitVec.toInt_eq_toNat_of_lt (by omega), e]

/-- The place a round finds is the lowest of those holding the largest entry. -/
theorem argV_eq (v : FVec Ideal S1x1024 .f32) (n : Fin 1024) (h : ∀ m, lanes v m ≤ lanes v n)
    (hn : ∀ m, lanes v m = lanes v n → n ≤ m) : argV iiV v = BitVec.ofNat 32 n.val := by
  have hsel : ∀ m : Fin 1024, select (cmpf .oeq v (broadcast S1x1024 (topV v))) iiV (broadcast S1x1024 1024#32) (ix2 (0 : Fin 1) m)
      = if lanes v m = lanes v n then BitVec.ofNat 32 m.val else 1024#32 := fun m => by
    rw [topV_eq v n h]
    show Scalar.select (Ideal.cmp .oeq (lanes v m) (lanes v n)) (iiV _) _ = _
    rw [iiV_lane]
    by_cases he : lanes v m = lanes v n <;> simp [Scalar.select, Ideal.cmp, he, broadcast]
  have hat : select (cmpf .oeq v (broadcast S1x1024 (topV v))) iiV (broadcast S1x1024 1024#32) (ix2 (0 : Fin 1) n)
      = BitVec.ofNat 32 n.val := (hsel n).trans (if_pos rfl)
  unfold argV
  refine ((scalar_eq _).trans (multiReductionI_eq_fold _ _ _ _ _ _)).trans ?_
  rw [Finset.filter_true_of_mem fun i _ => one_index _ _]
  refine (fold_minsi_eq _ _ (ix3 (0 : Fin 1) (0 : Fin 1) n) ?_ fun j => ?_).trans ((cast_lane _ _).trans hat)
  · rw [cast_lane]
    refine le_of_eq_of_le (congrArg BitVec.toInt hat) ?_
    rw [toInt_small _ n.isLt.le]
    have := n.isLt
    norm_num [BitVec.toInt]
    omega
  · rw [cast_lane, cast_lane]
    refine (congrArg BitVec.toInt hat).trans_le (le_of_le_of_eq ?_ (congrArg BitVec.toInt (hsel (j 2))).symm)
    rw [toInt_small _ n.isLt.le]
    split
    · rename_i he
      have := hn _ he
      rw [toInt_small _ (j 2).isLt.le]
      exact_mod_cast this
    · have := n.isLt
      rw [toInt_small 1024 le_rfl]
      omega

/-- The mask of a round holds at the place it finds alone. -/
theorem selV_lane (v : FVec Ideal S1x1024 .f32) (n : Fin 1024) (h : ∀ m, lanes v m ≤ lanes v n)
    (hn : ∀ m, lanes v m = lanes v n → n ≤ m) (m : Fin 1024) {α : Type} (a b : α) :
    Scalar.select (selV iiV v (ix2 (0 : Fin 1) m)) a b = if m = n then a else b := by
  have e : selV iiV v (ix2 (0 : Fin 1) m) = IntOp.cmpi .eq (BitVec.ofNat 32 m.val) (BitVec.ofNat 32 n.val) := by
    unfold selV
    rw [argV_eq v n h hn]
    show IntOp.cmpi .eq (iiV _) _ = _
    rw [iiV_lane]
    rfl
  rw [e]
  have hm : BitVec.ofNat 32 m.val = BitVec.ofNat 32 n.val ↔ m = n := by
    constructor
    · intro he
      have := congrArg BitVec.toNat he
      simp only [BitVec.toNat_ofNat] at this
      exact Fin.ext (by have := m.isLt; have := n.isLt; omega)
    · rintro rfl; rfl
  by_cases he : m = n
  · subst he; simp [Scalar.select, IntOp.cmpi]
  · rw [if_neg he]
    unfold IntOp.cmpi
    simp only [beq_eq_false_iff_ne.2 (mt hm.1 he)]
    rfl

variable (P : FVec Ideal S1x1024 .f32) (hP : ∀ n, 0 ≤ lanes P n)
include hP

/-- After `k` rounds the row left to search holds minus one at the best `k` places. -/
theorem leftV_lane (k : Nat) (hk : k ≤ 1024) (n : Fin 1024) : lanes (leftV iiV P k) n = left (lanes P) k n := by
  induction k generalizing n with
  | zero => exact (if_neg (not_top_zero _ _)).symm
  | succ k ih =>
    have ih := ih (by omega)
    let K : Fin 1024 := ⟨k, hk⟩
    have hK : lanes (leftV iiV P k) (order (lanes P) K) = lanes P (order (lanes P) K) := (ih _).trans (left_order _ K)
    refine (selV_lane (leftV iiV P k) (order (lanes P) K) (fun m => ?_) (fun m hm => ?_) n _ _).trans ?_
    · rw [hK, ih]; exact left_le _ hP K m
    · rw [hK, ih] at hm; exact order_le_of_left_eq _ hP K m hm
    · rw [left_succ (lanes P) K]
      refine if_congr Iff.rfl ?_ (ih n)
      exact IdealRules.sign_bit.ideal_negOnePat .f32

/-- After `k` rounds the row kept holds the best `k` entries, and zero elsewhere. -/
theorem keptV_lane (k : Nat) (hk : k ≤ 1024) (n : Fin 1024) : lanes (keptV iiV P k) n = kept (lanes P) k n := by
  induction k generalizing n with
  | zero => exact Eq.trans Ideal.ofBits_zero_f32 (if_neg (not_top_zero _ _)).symm
  | succ k ih =>
    have ih := ih (by omega)
    let K : Fin 1024 := ⟨k, hk⟩
    have hl := leftV_lane P hP k (by omega)
    have hK : lanes (leftV iiV P k) (order (lanes P) K) = lanes P (order (lanes P) K) := (hl _).trans (left_order _ K)
    refine (selV_lane (leftV iiV P k) (order (lanes P) K) (fun m => ?_) (fun m hm => ?_) n _ _).trans ?_
    · rw [hK, hl]; exact left_le _ hP K m
    · rw [hK, hl] at hm; exact order_le_of_left_eq _ hP K m hm
    · rw [kept_succ (lanes P) K]
      exact if_congr Iff.rfl rfl (ih n)

omit hP in
/-- A row divided by its total plus the small constant, read at a lane. -/
theorem normV_lane (s : FVec Ideal S1x1024 .f32) (n : Fin 1024) :
    normV s (ix3 (0 : Fin 1) (0 : Fin 1) n)
      = Ideal.div (lanes s n) ((∑ m : Fin 1024, lanes s m) + Ideal.ofBits .f32 0x322BCC77#32) := by
  unfold normV
  rw [cast_lane]
  refine congrArg (fun z => Ideal.div (lanes s n) (z + Ideal.ofBits .f32 0x322BCC77#32))
    (((scalar_eq _).trans (Ideal.multiReduction_add_total _ _ _ (by decide) _ _ _)).trans ?_)
  exact Fintype.sum_equiv laneEquiv _ (fun m => lanes s m) fun i => cast_lane s i

end Cert.Proof.Rounds

end
-- ==== Proof.RefPick.lean ====
module

public import proofs.«01_k».proof.Proof.Gen.ReferenceIdeal.Read
public import proofs.«01_k».proof.Proof.Pick
public import Idealize.ShloMosaic.Lib.ScatterToDense.RefScatter

@[expose] public section

noncomputable section

/-! # The reference's selection keeps the best entries of the row

From a pooled row the reference takes the eight largest entries with their places and writes them into a row of zeros. -/

namespace Cert.Proof.RefPick

open Cert.ReferenceIdeal Cert.ReferenceIdeal.Gen Cert.ReferenceIdeal.Read Idealize.ShloMosaic Idealize.ShloMosaic.ValueIdx Cert.Proof.Pick

/-- A row vector as a function of its lane. -/
def lanesR (v : FVec Ideal S1x1024 .f32) (n : Fin 1024) : EReal := v (ix2 (0 : Fin 1) n)

variable (P : FVec Ideal S1x1024 .f32)

/-- The eight largest entries of a row and their places. -/
def bestR : FVec Ideal S1x8 .f32 × IVec S1x8 32 :=
  Host.topK S1x8 1 (FloatOps.cmpfTotal .gt) P sliceFits_S1x1024_S1x8

/-- The places, one below zero counted from the end. -/
def wrapR (x : IVec S1x8 32) : IVec S1x8 32 :=
  select (cmpi .slt x (val_main_v38 (F := Ideal))) (addi x (val_main_v40 (F := Ideal))) x

/-- The index pairs: row zero, and the place. -/
def pairsR (x : IVec S1x8 32) : IVec S1x8x2 32 :=
  concatenate S1x8x2 2 [⟨S1x8x1, val_main_v44 (F := Ideal)⟩, ⟨S1x8x1, broadcastInDim S1x8x1 ![0, 1] bcast_S1x8_S1x8x1_0_1 (wrapR x)⟩]
    concatenates_S1x8x1_S1x8x1_S1x8x2_d2

/-- The row of zeros with the best entries written at their places. -/
def sparseR : FVec Ideal S1x1024 .f32 :=
  Host.scatter scatter_S1x1024_S1x8x2_S1x8_n_01_01_2 (fun _ b => b) (val_main_v30 (F := Ideal)) (pairsR (bestR P).2) (bestR P).1

/-- The row divided by its total plus the small constant. -/
def normR (S : FVec Ideal S1x1024 .f32) : FVec Ideal S1x1024 .f32 :=
  Host.divf S (broadcastInDim S1x1024 ![0, 1] bcast_S1x1_S1x1024_0_1
    (addf (broadcastInDim S1x1 ![0] bcast_S1_S1x1_0 (Host.reduceAdd S (val_main_cst_9 (F := Ideal)) reducesTo_S1x1024_S1_d1 h_S_))
      (val_main_v50 (F := Ideal))))

/-- The place in the row that the sort puts at position `s`. -/
def spot (s : Fin 8) : Fin 1024 := order (lanesR P) (s.castLE (by decide))

/-- The row's lanes are indexed along its second axis. -/
theorem along_lane (j : S1x1024.Idx) (k : Fin 1024) : j.along 1 k = ix2 (0 : Fin 1) k := funext fun a => by
  match a with
  | ⟨0, _⟩ => exact Subsingleton.elim (α := Fin 1) _ _
  | ⟨1, _⟩ => rfl

/-- The sort's comparison of two places is that of their entries. -/
theorem sort_eq (j : S1x1024.Idx) (y : S1x1024.Idx → BitVec 32) :
    sortedFrom (fun k k' : Fin 1024 => (fun l r : EReal × BitVec 32 => Ideal.cmp .ogt l.1 r.1) (P (j.along 1 k), y (j.along 1 k)) (P (j.along 1 k'), y (j.along 1 k')) == 1#1)
      = order (lanesR P) := by
  refine congrArg sortedFrom (funext fun k => funext fun k' => ?_)
  rw [along_lane, along_lane]
  show (BitVec.ofBool (decide (lanesR P k' < lanesR P k)) == 1#1) = decide (lanesR P k' < lanesR P k)
  by_cases h : lanesR P k' < lanesR P k <;> simp [h]

/-- The row sorted together with a row `y`: both are read in the order of the places. -/
theorem sorted_row (y : S1x1024.Idx → BitVec 32) :
    Host.sort2 S1x1024 1 (fun l r : EReal × BitVec 32 => FloatOps.cmpfTotal (F := Ideal) (φ := .f32) .gt l.1 r.1) P y
      = (fun j => lanesR P (order (lanesR P) (j 1)), fun j => y (ix2 (0 : Fin 1) (order (lanesR P) (j 1)))) := by
  unfold Host.sort2
  rw [dif_pos (show 1 < S1x1024.rank by decide)]
  refine Prod.ext (funext fun j => ?_) (funext fun j => ?_)
  · exact congrArg P ((congrArg (fun o : Fin 1024 → Fin 1024 => j.along (1 : Fin 2) (o (j 1))) (sort_eq P j y)).trans (along_lane j _))
  · exact congrArg y ((congrArg (fun o : Fin 1024 → Fin 1024 => j.along (1 : Fin 2) (o (j 1))) (sort_eq P j y)).trans (along_lane j _))

/-- The first eight of a row. -/
theorem first_eight {α : Type} (x : S1x1024.Idx → α) (s : Fin 8) :
    extractStridedSlice S1x8 (fun _ => 0) x sliceFits_S1x1024_S1x8 (ix2 (0 : Fin 1) s) = x (ix2 (0 : Fin 1) (s.castLE (by decide : 8 ≤ 1024))) :=
  extractStridedSlice_apply _ x _ _ _ fun a => by
    match a with
    | ⟨0, _⟩ => rfl
    | ⟨1, _⟩ => exact (Nat.zero_add _).symm

/-- The entry listed at position `s` is the one at its spot. -/
theorem best_value (s : Fin 8) : (bestR P).1 (ix2 (0 : Fin 1) s) = lanesR P (spot P s) := by
  unfold bestR Host.topK
  simp only []
  rw [sorted_row, first_eight]
  rfl

/-- The place listed at position `s` is its spot. -/
theorem best_place (s : Fin 8) : (bestR P).2 (ix2 (0 : Fin 1) s) = BitVec.ofNat 32 (spot P s).val := by
  unfold bestR Host.topK
  simp only []
  rw [sorted_row, first_eight]
  rfl

/-- A place in the row is not below zero, so it stays as it is. -/
theorem wrap_place (s : Fin 8) : wrapR (bestR P).2 (ix2 (0 : Fin 1) s) = BitVec.ofNat 32 (spot P s).val := by
  unfold wrapR
  show Scalar.select (IntOp.cmpi .slt ((bestR P).2 _) (val_main_v38 (F := Ideal) _)) (IntOp.addi ((bestR P).2 _) _) ((bestR P).2 _) = _
  rw [val_main_v38_apply, val_main_c_7_apply, best_place]
  refine Routing.wrap_of_lt _ _ ?_
  rw [BitVec.toNat_ofNat]
  have := (spot P s).isLt
  omega

/-- Every pair names row zero. -/
theorem pair_row (x : IVec S1x8 32) (s : Fin 8) : pairsR x (ix3 (0 : Fin 1) s (0 : Fin 2)) = BitVec.ofNat 32 0 := by
  unfold pairsR
  refine (concatenate_pair_apply_left (t := S1x8x2) (s₁ := S1x8x1) (s₂ := S1x8x1) 2 _ _ _ _ rfl (ix3 (0 : Fin 1) s (0 : Fin 1)) ?_).trans ?_
  · intro b
    match b with
    | ⟨0, _⟩ => rfl
    | ⟨1, _⟩ => rfl
    | ⟨2, _⟩ => rfl
  · rw [val_main_v44_apply, val_main_v43_apply, val_main_v37_apply, val_main_v34_apply, val_main_v33_apply, val_main_c_apply, val_main_v32_apply,
      val_main_v31_apply]
    exact Routing.wrap_of_lt _ _ (by show (BitVec.ofNat 32 0).toNat < _; decide)

/-- Every pair names the place listed. -/
theorem pair_place (x : IVec S1x8 32) (s : Fin 8) : pairsR x (ix3 (0 : Fin 1) s (1 : Fin 2)) = wrapR x (ix2 (0 : Fin 1) s) := by
  unfold pairsR
  refine (concatenate_pair_apply_right (t := S1x8x2) (s₁ := S1x8x1) (s₂ := S1x8x1) 2 _ _ _ _ rfl rfl (ix3 (0 : Fin 1) s (0 : Fin 1)) ?_ ?_).trans ?_
  · intro b hb
    match b with
    | ⟨0, _⟩ => rfl
    | ⟨1, _⟩ => rfl
    | ⟨2, _⟩ => exact absurd rfl hb
  · rfl
  · refine broadcastInDim_apply _ bcast_S1x8_S1x8x1_0_1 _ _ (ix2 (0 : Fin 1) s) fun a => ?_
    match a with
    | ⟨0, _⟩ => rfl
    | ⟨1, _⟩ => rfl

/-- The row written holds the best eight entries, and zero elsewhere. -/
theorem sparse_lane (n : Fin 1024) : lanesR (sparseR P) n = kept (lanesR P) 8 n := by
  let pos : Nat → Fin 8 := fun k => ⟨k % 8, Nat.mod_lt _ (by decide)⟩
  have hpos : ∀ k : Fin 8, pos k.val = k := fun k => Fin.ext (Nat.mod_eq_of_lt k.isLt)
  have hz : val_main_v30 (F := Ideal) (ix2 (0 : Fin 1) n) = 0 := by
    rw [val_main_v30_apply, val_main_cst_5_apply]; exact Ideal.ofBits_zero_f32
  have hw : ∀ s : Fin 8, (BitVec.ofNat 32 (spot P s).val).toNat = (spot P s).val := fun s => by
    rw [BitVec.toNat_ofNat]; have := (spot P s).isLt; omega
  have h := ScatterToDense.scatter_eq_GS (T := 1) (C := 1024) (K := 8) scatter_S1x1024_S1x8x2_S1x8_n_01_01_2 rfl rfl rfl (by decide) (by decide)
    (val_main_v30 (F := Ideal)) (pairsR (bestR P).2) (bestR P).1 (fun _ k => BitVec.ofNat 32 (spot P (pos k)).val) (fun _ k => lanesR P (spot P (pos k)))
    (fun i k => by obtain rfl : i = 0 := Subsingleton.elim _ _; exact pair_row _ k)
    (fun i k => by obtain rfl : i = 0 := Subsingleton.elim _ _; rw [hpos]; exact (pair_place _ k).trans (wrap_place P k))
    (fun i k => by obtain rfl : i = 0 := Subsingleton.elim _ _; rw [hpos]; exact best_value P k) 0 n
  have e : lanesR (sparseR P) n = Host.scatter scatter_S1x1024_S1x8x2_S1x8_n_01_01_2 (fun _ b => b) (val_main_v30 (F := Ideal)) (pairsR (bestR P).2)
      (bestR P).1 (ix2 (0 : Fin 1) n) := by
    unfold lanesR sparseR; rfl
  rw [e, h]
  unfold ScatterToDense.GS kept
  rcases LaneScatter.lastHit_cases (fun k => n.val = (BitVec.ofNat 32 (spot P (pos k)).val).toNat) (fun k => lanesR P (spot P (pos k)))
    (val_main_v30 (F := Ideal) (ix2 (0 : Fin 1) n)) 8 with ⟨k, hk, hh, -, hv⟩ | ⟨hn, hv⟩
  · refine hv.trans ?_
    rw [hw] at hh
    have hn : spot P (pos k) = n := Fin.ext hh.symm
    rw [if_pos ⟨_, (pos k).isLt, hn⟩, hn]
  · refine hv.trans (hz.trans (if_neg ?_).symm)
    rintro ⟨s, hs, he⟩
    refine hn s.val hs ?_
    have e : (pos s.val).castLE (by decide : 8 ≤ 1024) = s := Fin.ext (Nat.mod_eq_of_lt hs)
    rw [hw, ← he]
    show _ = (order (lanesR P) ((pos s.val).castLE _)).val
    rw [e]

omit P in
/-- One entry spread along a row. -/
theorem spread_row (v : FVec Ideal S1x1 .f32) (n : Fin 1024) :
    broadcastInDim S1x1024 ![0, 1] bcast_S1x1_S1x1024_0_1 v (ix2 (0 : Fin 1) n) = v (ix2 (0 : Fin 1) (0 : Fin 1)) :=
  broadcastInDim_apply _ bcast_S1x1_S1x1024_0_1 v _ _ fun a => by match a with | ⟨0, _⟩ => rfl | ⟨1, _⟩ => rfl

omit P in
/-- One entry viewed with a unit axis more. -/
theorem spread_one (v : FVec Ideal S1 .f32) :
    broadcastInDim S1x1 ![0] bcast_S1_S1x1_0 v (ix2 (0 : Fin 1) (0 : Fin 1)) = v (ix1 (0 : Fin 1)) :=
  broadcastInDim_apply _ bcast_S1_S1x1_0 v _ _ fun a => by match a with | ⟨0, _⟩ => rfl

omit P in
/-- The total of a row. -/
theorem total_row (S : FVec Ideal S1x1024 .f32) :
    Host.reduceAdd S (val_main_cst_9 (F := Ideal)) reducesTo_S1x1024_S1_d1 h_S_ (ix1 (0 : Fin 1)) = ∑ m : Fin 1024, lanesR S m := by
  simp only [Host.reduceAdd, Ideal.hostReduceAdd_def]
  rw [Ideal.hostReduceAdd_single reducesTo_S1x1024_S1_d1 (by decide), val_main_cst_9_apply]
  refine (congrArg (· + _) Ideal.ofBits_zero_f32).trans ((zero_add _).trans (Finset.sum_congr rfl fun k _ => ?_))
  refine congrArg S (funext fun a => Fin.ext ?_)
  match a with | ⟨0, _⟩ => rfl | ⟨1, _⟩ => rfl

omit P in
/-- A row divided by its total plus the small constant, read at a lane. -/
theorem norm_lane (S : FVec Ideal S1x1024 .f32) (n : Fin 1024) :
    lanesR (normR S) n = Ideal.div (lanesR S n) ((∑ m : Fin 1024, lanesR S m) + Ideal.ofBits .f32 0x322BCC77#32) := by
  refine congrArg (Ideal.div (lanesR S n)) ((spread_row _ n).trans ?_)
  refine congrArg₂ (· + ·) ((spread_one _).trans (total_row S)) ?_
  rw [val_main_v50_apply, val_main_cst_10_apply]
  rfl

end Cert.Proof.RefPick

end
-- ==== Proof.Pool.lean ====
module

public import Idealize.ShloMosaic.PureOps.Ideal
public import Idealize.ShloMosaic.PureOps.Ideal.Laws

@[expose] public section

noncomputable section

/-! # Scores and pooled weights as plain sums

The scores of tokens against embeddings and the pooled weights of a group, over extended reals, in the two orders in
which they are computed: weight the exponentials by importance over the total, or divide by the total first. -/

namespace Cert.Proof.Pool

open Idealize.ShloMosaic

/-- The smallest length a row is divided by. -/
abbrev tiny : EReal := Ideal.ofBits .f32 0x2B8CBCCC#32

/-- The small constant added to a total. -/
abbrev small : EReal := Ideal.ofBits .f32 0x322BCC77#32

/-- A value that is a real number. -/
def IsReal (a : EReal) : Prop := ∃ r : ℝ, a = (r : EReal)

/-- A value of finite magnitude is real. -/
theorem isReal_of_abs {a : EReal} (h : max a (-a) < ⊤) : IsReal a := by
  induction a with
  | bot => exact absurd h (by simp)
  | top => exact absurd h (by simp)
  | coe r => exact ⟨r, rfl⟩

/-- A sum of reals is real. -/
theorem isReal_add {a b : EReal} (ha : IsReal a) (hb : IsReal b) : IsReal (a + b) := by
  obtain ⟨r, rfl⟩ := ha; obtain ⟨s, rfl⟩ := hb; exact ⟨r + s, (EReal.coe_add r s).symm⟩

/-- A product of reals is real. -/
theorem isReal_mul {a b : EReal} (ha : IsReal a) (hb : IsReal b) : IsReal (a * b) := by
  obtain ⟨r, rfl⟩ := ha; obtain ⟨s, rfl⟩ := hb; exact ⟨r * s, (EReal.coe_mul r s).symm⟩

/-- A finite sum of reals is real. -/
theorem isReal_sum {n : Nat} (f : Fin n → EReal) (h : ∀ k, IsReal (f k)) : IsReal (∑ k, f k) := by
  refine Finset.sum_induction f IsReal (fun _ _ => isReal_add) ⟨0, rfl⟩ fun k _ => h k

/-- The smallest length is positive. -/
theorem tiny_pos : 0 < tiny := by
  have : tiny = (((2 ^ 23 + 834764 : Nat) * (2 : ℝ) ^ (-63 : ℤ) : ℝ) : EReal) := by
    unfold tiny
    simp [Ideal.ofBits, Ideal.ieee]
  rw [this]
  exact EReal.coe_pos.2 (by positivity)

/-- The small constant is positive. -/
theorem small_pos : 0 < small := by
  have : small = (((2 ^ 23 + 2870391 : Nat) * (2 : ℝ) ^ (-50 : ℤ) : ℝ) : EReal) := by
    unfold small
    simp [Ideal.ofBits, Ideal.ieee]
  rw [this]
  exact EReal.coe_pos.2 (by positivity)

/-- A row's length, never less than the smallest one. -/
def len (e : Fin 64 → EReal) : EReal := max (Ideal.sqrt (∑ d, e d * e d)) tiny

/-- A row divided by its length. -/
def unit (e : Fin 64 → EReal) (d : Fin 64) : EReal := Ideal.div (e d) (len e)

/-- A square is not negative. -/
theorem square_nonneg (a : EReal) : 0 ≤ a * a := by
  induction a with
  | bot => simp
  | top => simp
  | coe r => rw [← EReal.coe_mul]; exact EReal.coe_nonneg.2 (mul_self_nonneg r)

/-- A row divided by its length is real: an infinite entry makes the length infinite. -/
theorem isReal_unit (e : Fin 64 → EReal) (d : Fin 64) : IsReal (unit e d) := by
  have hp : 0 < len e := tiny_pos.trans_le (le_max_right _ _)
  unfold unit Ideal.div
  rw [if_neg hp.ne']
  by_cases ht : len e = ⊤
  · exact ⟨0, by rw [ht]; simp⟩
  · have hl : IsReal (len e) := by
      generalize len e = l at hp ht
      induction l with
      | bot => exact absurd hp (by simp)
      | top => exact absurd rfl ht
      | coe r => exact ⟨r, rfl⟩
    obtain ⟨r, hr⟩ := hl
    rw [hr, ← EReal.coe_inv]
    refine isReal_mul ?_ ⟨_, rfl⟩
    have hnot : e d * e d ≠ ⊤ := fun h => ht (top_le_iff.1 (by
      have hs : (∑ k, e k * e k) = ⊤ := top_le_iff.1 (h ▸ Finset.single_le_sum (f := fun k => e k * e k) (fun k _ => square_nonneg _) (Finset.mem_univ d))
      unfold len
      rw [hs]
      exact le_max_left _ _))
    generalize e d = a at hnot
    induction a with
    | bot => exact absurd (by simp) hnot
    | top => exact absurd (by simp) hnot
    | coe r => exact ⟨r, rfl⟩

/-- The score of a token's activations against an embedding, through one group's columns of the projection. -/
def score (x : Fin 1024 → EReal) (w : Fin 1024 → Fin 64 → EReal) (b : Fin 64 → EReal) (e : Fin 64 → EReal) : EReal :=
  ∑ d, ((∑ k, x k * w k d) + b d) * unit e d

/-- The largest of a row's scores. -/
def top (l : Fin 1024 → EReal) : EReal := Finset.univ.fold max ⊥ l

/-- The exponential of a score, the row's largest taken off first. -/
def ex (l : Fin 1024 → EReal) (n : Fin 1024) : EReal := Ideal.exp (l n - top l)

/-- The total of a row's exponentials. -/
def total (l : Fin 1024 → EReal) : EReal := ∑ n, ex l n

/-- The importance of a token as a share of the whole. -/
def share (p : Fin 2048 → EReal) (s : Fin 2048) : EReal := Ideal.div (p s) ((∑ t, p t) + small)

/-- Pooled weights: exponentials weighted by the share over the total. -/
def pool (p : Fin 2048 → EReal) (l : Fin 2048 → Fin 1024 → EReal) (n : Fin 1024) : EReal :=
  ∑ s, ex (l s) n * Ideal.div (share p s) (total (l s))

/-- Exponentials are not negative. -/
theorem exp_nonneg (a : EReal) : 0 ≤ Ideal.exp a := by
  induction a with
  | bot => exact le_rfl
  | top => exact le_top
  | coe r => exact EReal.coe_nonneg.2 (Real.exp_pos r).le

/-- No entry of a row exceeds its largest. -/
theorem le_top_of (l : Fin 1024 → EReal) (n : Fin 1024) : l n ≤ top l := (Finset.le_fold_max _).2 (.inr ⟨n, Finset.mem_univ _, le_rfl⟩)

/-- The largest of a row is infinite just when an entry is. -/
theorem top_eq_top (l : Fin 1024 → EReal) : top l = ⊤ ↔ ∃ n, l n = ⊤ := by
  constructor
  · intro h
    by_contra hn
    have hlt : top l < ⊤ := (Finset.fold_max_lt _).2 ⟨bot_lt_top, fun n _ => lt_top_iff_ne_top.2 fun he => hn ⟨n, he⟩⟩
    exact hlt.ne h
  · rintro ⟨n, h⟩
    exact top_le_iff.1 (h ▸ le_top_of l n)

/-- The largest of a row is minus infinity just when every entry is. -/
theorem top_eq_bot (l : Fin 1024 → EReal) : top l = ⊥ ↔ ∀ n, l n = ⊥ :=
  ⟨fun h n => le_bot_iff.1 (h ▸ le_top_of l n), fun h => le_bot_iff.1 ((Finset.fold_max_le _).2 ⟨le_rfl, fun n _ => (h n).le⟩)⟩

/-- The exponentials of a row whose largest score is infinite are all zero. -/
theorem ex_zero (l : Fin 1024 → EReal) (h : top l = ⊤ ∨ top l = ⊥) (n : Fin 1024) : ex l n = 0 := by
  have e : l n - top l = ⊥ := by
    rcases h with h | h
    · rw [h]; simp [sub_eq_add_neg]
    · rw [(top_eq_bot l).1 h n]; simp [sub_eq_add_neg]
  unfold ex
  rw [e]
  rfl

/-- The total of a row whose largest score is real is positive. -/
theorem total_pos (l : Fin 1024 → EReal) (ht : top l ≠ ⊤) (hb : top l ≠ ⊥) : 0 < total l := by
  obtain ⟨n, hn⟩ : ∃ n, l n ≠ ⊥ := by
    by_contra h
    exact hb ((top_eq_bot l).2 fun n => by_contra fun hn => h ⟨n, hn⟩)
  have hnt : l n ≠ ⊤ := fun h => ht ((top_eq_top l).2 ⟨n, h⟩)
  have hs : ex l n ≤ total l := Finset.single_le_sum (f := ex l) (fun _ _ => exp_nonneg _) (Finset.mem_univ n)
  refine lt_of_lt_of_le ?_ hs
  unfold ex
  lift top l to ℝ using ⟨ht, hb⟩ with t
  lift l n to ℝ using ⟨hnt, hn⟩ with r
  rw [← EReal.coe_sub]
  exact EReal.coe_pos.2 (Real.exp_pos _)

/-- Two values infinite alike: neither or both are, of the same sign. -/
def Alike (a b : EReal) : Prop := (a = ⊤ ↔ b = ⊤) ∧ (a = ⊥ ↔ b = ⊥)

/-- Reals are alike. -/
theorem alike_of_real {a b : EReal} (ha : IsReal a) (hb : IsReal b) : Alike a b := by
  obtain ⟨r, rfl⟩ := ha; obtain ⟨s, rfl⟩ := hb; simp [Alike]

/-- Sums of values alike are alike. -/
theorem alike_add {a a' b b' : EReal} (ha : Alike a a') (hb : Alike b b') : Alike (a + b) (a' + b') := by
  unfold Alike at *
  induction a <;> induction a' <;> induction b <;> induction b' <;> simp_all [← EReal.coe_add]

/-- Products of values alike by one real are alike. -/
theorem alike_mul {a a' u : EReal} (ha : Alike a a') (hu : IsReal u) : Alike (a * u) (a' * u) := by
  obtain ⟨r, rfl⟩ := hu
  unfold Alike at *
  rcases lt_trichotomy r 0 with hr | rfl | hr
  · induction a <;> induction a' <;>
      simp_all [EReal.top_mul_coe_of_neg, EReal.bot_mul_coe_of_neg, ← EReal.coe_mul]
  · simp
  · induction a <;> induction a' <;>
      simp_all [EReal.top_mul_coe_of_pos, EReal.bot_mul_coe_of_pos, ← EReal.coe_mul]

/-- The scores of any two real tokens against one embedding are alike, whatever the bias. -/
theorem alike_score (x x' : Fin 1024 → EReal) (w : Fin 1024 → Fin 64 → EReal) (b : Fin 64 → EReal) (e : Fin 64 → EReal)
    (hx : ∀ k, IsReal (x k)) (hx' : ∀ k, IsReal (x' k)) (hw : ∀ k d, IsReal (w k d)) : Alike (score x w b e) (score x' w b e) := by
  unfold score
  refine Finset.sum_hom_rel (r := Alike) ⟨Iff.rfl, Iff.rfl⟩ fun d y z h => alike_add (alike_mul (alike_add ?_ ⟨Iff.rfl, Iff.rfl⟩) (isReal_unit e d)) h
  exact alike_of_real (isReal_sum _ fun k => isReal_mul (hx k) (hw k d)) (isReal_sum _ fun k => isReal_mul (hx' k) (hw k d))

/-- A group's scores are settled: every token's total is positive, or all exponentials are zero. -/
def Settled (l : Fin 2048 → Fin 1024 → EReal) : Prop := (∀ s, 0 < total (l s)) ∨ ∀ s n, ex (l s) n = 0

/-- Rows of scores infinite alike are settled. -/
theorem settled_of_alike (l : Fin 2048 → Fin 1024 → EReal) (h : ∀ s s' n, Alike (l s n) (l s' n)) : Settled l := by
  have ht : ∀ s s', top (l s) = ⊤ → top (l s') = ⊤ := fun s s' he => by
    obtain ⟨n, hn⟩ := (top_eq_top _).1 he
    exact (top_eq_top _).2 ⟨n, (h s s' n).1.1 hn⟩
  have hb : ∀ s s', top (l s) = ⊥ → top (l s') = ⊥ := fun s s' he =>
    (top_eq_bot _).2 fun n => (h s s' n).2.1 ((top_eq_bot _).1 he n)
  by_cases h0 : top (l 0) = ⊤ ∨ top (l 0) = ⊥
  · exact .inr fun s n => ex_zero _ (h0.imp (ht 0 s) (hb 0 s)) n
  · rw [not_or] at h0
    exact .inl fun s => total_pos _ (fun he => h0.1 (ht s 0 he)) fun he => h0.2 (hb s 0 he)

/-- Dividing the exponentials by the total first gives the same pooled weights when the totals are positive. -/
theorem pool_eq (p : Fin 2048 → EReal) (l : Fin 2048 → Fin 1024 → EReal) (h : ∀ s, 0 < total (l s)) (n : Fin 1024) :
    (∑ s, Ideal.div (ex (l s) n) (total (l s)) * share p s) = pool p l n := by
  refine Finset.sum_congr rfl fun s _ => ?_
  unfold Ideal.div
  rw [if_neg (h s).ne', if_neg (h s).ne', mul_assoc, mul_comm (total (l s))⁻¹]

/-- Pooled weights of exponentials that are all zero are zero. -/
theorem pool_zero (p : Fin 2048 → EReal) (l : Fin 2048 → Fin 1024 → EReal) (h : ∀ s n, ex (l s) n = 0) (n : Fin 1024) : pool p l n = 0 :=
  Finset.sum_eq_zero fun s _ => by rw [h, zero_mul]

/-- A quotient of a value that is not negative by a positive one is not negative. -/
theorem div_nonneg {a b : EReal} (ha : 0 ≤ a) (hb : 0 < b) : 0 ≤ Ideal.div a b := by
  unfold Ideal.div
  rw [if_neg hb.ne']
  exact mul_nonneg ha (EReal.inv_nonneg_of_nonneg hb.le)

/-- Shares are not negative when no importance is. -/
theorem share_nonneg (p : Fin 2048 → EReal) (hp : ∀ s, 0 ≤ p s) (s : Fin 2048) : 0 ≤ share p s :=
  div_nonneg (hp s) (small_pos.trans_le (le_add_of_nonneg_left (Finset.sum_nonneg fun t _ => hp t)))

/-- Pooled weights are not negative when no importance is and the scores are settled. -/
theorem pool_nonneg (p : Fin 2048 → EReal) (l : Fin 2048 → Fin 1024 → EReal) (hp : ∀ s, 0 ≤ p s) (h : Settled l) (n : Fin 1024) :
    0 ≤ pool p l n := by
  rcases h with h | h
  · exact Finset.sum_nonneg fun s _ => mul_nonneg (exp_nonneg _) (div_nonneg (share_nonneg p hp s) (h s))
  · exact (pool_zero p l h n).ge

/-- Dividing zeros by a zero total gives, at every lane alike, zero or minus infinity. -/
theorem pool_flat (p : Fin 2048 → EReal) (l : Fin 2048 → Fin 1024 → EReal) (hp : ∀ s, 0 ≤ p s) (h : ∀ s n, ex (l s) n = 0) (n : Fin 1024) :
    (∑ s, Ideal.div (ex (l s) n) (total (l s)) * share p s) = 0 ∨ (∑ s, Ideal.div (ex (l s) n) (total (l s)) * share p s) = ⊥ := by
  refine Finset.sum_induction _ (fun z => z = 0 ∨ z = ⊥) (fun a b ha hb => ?_) (.inl rfl) fun s _ => ?_
  · rcases ha with rfl | rfl <;> rcases hb with rfl | rfl <;> simp
  · have ht : total (l s) = 0 := Finset.sum_eq_zero fun m _ => h s m
    have e : Ideal.div (ex (l s) n) (total (l s)) = ⊥ := by rw [h, ht]; simp [Ideal.div]
    rw [e]
    rcases (share_nonneg p hp s).eq_or_lt with h0 | h0
    · rw [← h0]; simp
    · exact .inr (EReal.bot_mul_of_pos h0)

end Cert.Proof.Pool

end
-- ==== Proof.RefPool.lean ====
module

public import proofs.«01_k».proof.Proof.RefPick
public import proofs.«01_k».proof.Proof.Pool
public import Idealize.ShloMosaic.Lib.KernelVsHost

@[expose] public section

noncomputable section

/-! # The reference's pooled weights of a group

The six groups go through the same operations after their scores are cut out. Here these are written once, over the scores,
and read as the plain sums. -/

namespace Cert.Proof.RefPool

open Cert.ReferenceIdeal Cert.ReferenceIdeal.Gen Cert.ReferenceIdeal.Read Idealize.ShloMosaic Idealize.ShloMosaic.ValueIdx Cert.Proof.Pool Cert.Proof.RefPick

variable (L : FVec Ideal S1x2048x1024 .f32) (p : FVec Ideal S1x2048 .f32)

/-- A value per token spread over the embeddings. -/
def spreadR (v : FVec Ideal S1x2048 .f32) : FVec Ideal S1x2048x1024 .f32 :=
  broadcastInDim S1x2048x1024 ![0, 1, 2] bcast_S1x2048x1_S1x2048x1024_0_1_2 (broadcastInDim S1x2048x1 ![0, 1] bcast_S1x2048_S1x2048x1_0_1 v)

/-- Each token's largest score. -/
def peakR : FVec Ideal S1x2048 .f32 :=
  maximumf (val_main_v19 (F := Ideal)) (Host.reduce FloatOps.maximumf L (val_main_cst_2 (F := Ideal)) reducesTo_S1x2048x1024_S1x2048_d2 h_S_)

/-- The exponentials of the scores, each token's largest taken off first. -/
def expR : FVec Ideal S1x2048x1024 .f32 := Host.exp (subf L (spreadR (peakR L)))

/-- Each token's total. -/
def sumR (E : FVec Ideal S1x2048x1024 .f32) : FVec Ideal S1x2048 .f32 :=
  Host.reduceAdd E (val_main_cst_4 (F := Ideal)) reducesTo_S1x2048x1024_S1x2048_d2 h_S_

/-- The exponentials over each token's total. -/
def softR (E : FVec Ideal S1x2048x1024 .f32) : FVec Ideal S1x2048x1024 .f32 := Host.divf E (spreadR (sumR E))

/-- The pooled weights. -/
def poolR (S : FVec Ideal S1x2048x1024 .f32) : FVec Ideal S1x1024 .f32 :=
  Host.dotGeneral dot_S1x2048x1024_S1x2048_S1x1024_1_1_2_n_0_0 none S p

/-- One token's scores. -/
def tokR (s : Fin 2048) (n : Fin 1024) : EReal := L (ix3 (0 : Fin 1) s n)

omit L p in
/-- A value per token read anywhere in its row. -/
theorem spread_at (v : FVec Ideal S1x2048 .f32) (s : Fin 2048) (n : Fin 1024) : spreadR v (ix3 (0 : Fin 1) s n) = v (ix2 (0 : Fin 1) s) := by
  unfold spreadR
  refine (broadcastInDim_apply _ bcast_S1x2048x1_S1x2048x1024_0_1_2 _ _ (ix3 (0 : Fin 1) s (0 : Fin 1)) fun a => ?_).trans
    (broadcastInDim_apply _ bcast_S1x2048_S1x2048x1_0_1 v _ (ix2 (0 : Fin 1) s) fun a => ?_)
  · match a with
    | ⟨0, _⟩ => rfl
    | ⟨1, _⟩ => rfl
    | ⟨2, _⟩ => rfl
  · match a with
    | ⟨0, _⟩ => rfl
    | ⟨1, _⟩ => rfl

omit L p in
/-- Minus infinity, as the pattern the reductions start from. -/
theorem pattern_bot : Ideal.ofBits .f32 0xFF800000#32 = ⊥ := by simp [Ideal.ofBits, Ideal.ieee]

omit L p in
/-- The scores reduce along their last axis. -/
theorem reduces_row : S1x2048x1024.Reduces [2] S1x2048 := by decide

/-- A token's row reduced by the maximum. -/
theorem reduce_at (s : Fin 2048) :
    multiReduction .maximumf [2] S1x2048 L 0xFF800000#32 reduces_row (.inl rfl) rfl (ix2 (0 : Fin 1) s) = top (tokR L s) := by
  refine (Ideal.multiReduction_maximumf_single _ _ _ _ _ _).trans ?_
  refine congrArg₂ (fun b f => Finset.univ.fold max b f) pattern_bot (funext fun k => congrArg L (funext fun a => Fin.ext ?_))
  match a with
  | ⟨0, _⟩ => rfl
  | ⟨1, _⟩ => rfl
  | ⟨2, _⟩ => rfl

/-- The host's reduction is that one. -/
theorem host_reduce : Host.reduce FloatOps.maximumf L (val_main_cst_2 (F := Ideal)) reducesTo_S1x2048x1024_S1x2048_d2 h_S_
    = multiReduction .maximumf [2] S1x2048 L 0xFF800000#32 reduces_row (.inl rfl) rfl := by
  unfold val_main_cst_2
  exact hostReduce_maximumf_eq_multiReduction L 0xFF800000#32 reducesTo_S1x2048x1024_S1x2048_d2 h_S_ reduces_row (.inl rfl) rfl

omit L p in
/-- The larger of two vectors, read at an index. -/
theorem max_at {s : Shape} (a b : FVec Ideal s .f32) (j : s.Idx) : maximumf a b j = max (a j) (b j) := rfl

/-- The largest score of a token. -/
theorem peak_at (s : Fin 2048) : peakR L (ix2 (0 : Fin 1) s) = top (tokR L s) := by
  unfold peakR
  rw [max_at, host_reduce, reduce_at, val_main_v19_apply, val_main_cst_3_apply]
  exact (congrArg (max · _) pattern_bot).trans (max_eq_right bot_le)

/-- The exponential of a score. -/
theorem exp_at (s : Fin 2048) (n : Fin 1024) : expR L (ix3 (0 : Fin 1) s n) = ex (tokR L s) n :=
  congrArg (fun t => Ideal.exp (tokR L s n - t)) ((spread_at _ s n).trans (peak_at L s))

omit L p in
/-- The total of a token's row. -/
theorem sum_at (E : FVec Ideal S1x2048x1024 .f32) (s : Fin 2048) : sumR E (ix2 (0 : Fin 1) s) = ∑ n, E (ix3 (0 : Fin 1) s n) := by
  unfold sumR
  simp only [Host.reduceAdd, Ideal.hostReduceAdd_def]
  rw [Ideal.hostReduceAdd_single reducesTo_S1x2048x1024_S1x2048_d2 (by decide), val_main_cst_4_apply]
  refine (congrArg (· + _) Ideal.ofBits_zero_f32).trans ((zero_add _).trans (Finset.sum_congr rfl fun k _ => ?_))
  refine congrArg E (funext fun a => Fin.ext ?_)
  match a with | ⟨0, _⟩ => rfl | ⟨1, _⟩ => rfl | ⟨2, _⟩ => rfl

/-- The exponential over the token's total. -/
theorem soft_at (s : Fin 2048) (n : Fin 1024) :
    softR (expR L) (ix3 (0 : Fin 1) s n) = Ideal.div (ex (tokR L s) n) (total (tokR L s)) := by
  refine congrArg₂ Ideal.div (exp_at L s n) ((spread_at _ s n).trans ((sum_at _ s).trans ?_))
  exact Finset.sum_congr rfl fun k _ => exp_at L s k

omit L in
/-- The pooled weights are a sum over tokens. -/
theorem pool_at (S : FVec Ideal S1x2048x1024 .f32) (n : Fin 1024) :
    lanesR (poolR p S) n = ∑ s, S (ix3 (0 : Fin 1) s n) * p (ix2 (0 : Fin 1) s) := by
  unfold lanesR poolR
  simp only [Host.dotGeneral]
  rw [Ideal.dotGeneral_apply, ← Equiv.sum_comp (contrEquiv1 dot_S1x2048x1024_S1x2048_S1x1024_1_1_2_n_0_0 2048 rfl rfl).symm]
  refine Finset.sum_congr rfl fun k _ => ?_
  have hk := contrEquiv1_symm_val dot_S1x2048x1024_S1x2048_S1x1024_1_1_2_n_0_0 2048 rfl rfl k
  refine congrArg₂ (fun a b => S a * p b) (funext fun a => Fin.ext ?_) (funext fun a => Fin.ext ?_)
  · match a with
    | ⟨0, _⟩ => exact lhs_main_v29_0 _ _
    | ⟨1, _⟩ => exact (lhs_main_v29_1 _ _).trans hk
    | ⟨2, _⟩ => exact lhs_main_v29_2 _ _
  · match a with
    | ⟨0, _⟩ => exact rhs_main_v29_0 _ _
    | ⟨1, _⟩ => exact (rhs_main_v29_1 _ _).trans hk

/-- One group of the reference as a function of its scores. -/
def groupR : FVec Ideal S1x1024 .f32 := normR (sparseR (poolR p (softR (expR L))))

/-- The shares of the tokens. -/
theorem share_at (x1 : FVec Ideal S1x2048 .f32) (s : Fin 2048) :
    val_main_v15 (F := Ideal) x1 (ix2 (0 : Fin 1) s) = share (fun t => x1 (ix2 (0 : Fin 1) t)) s := by
  rw [val_main_v15_apply, val_main_v14_apply, val_main_v13_apply, val_main_v12_apply, val_main_cst_1_apply, val_main_v11_apply, val_main_v10_apply,
    val_main_cst_0_apply]
  refine congrArg (Ideal.div _) (congrArg (· + small) ?_)
  refine (congrArg (· + _) Ideal.ofBits_zero_f32).trans ((zero_add _).trans (Finset.sum_congr rfl fun k _ => congrArg x1 (funext fun a => Fin.ext ?_)))
  match a with | ⟨0, _⟩ => rfl | ⟨1, _⟩ => rfl

/-- The row selected from pooled weights. -/
def rowOf (P : Fin 1024 → EReal) (n : Fin 1024) : EReal :=
  Ideal.div (Pick.kept P 8 n) ((∑ m, Pick.kept P 8 m) + small)

omit L p in
/-- A row whose entries are zero or minus infinity selects zeros: minus infinity over itself is zero. -/
theorem rowOf_flat (P : Fin 1024 → EReal) (h : ∀ m, P m = 0 ∨ P m = ⊥) (n : Fin 1024) : rowOf P n = 0 := by
  have hk : ∀ m, Pick.kept P 8 m = 0 ∨ Pick.kept P 8 m = ⊥ := fun m => by
    unfold Pick.kept
    split
    · exact h m
    · exact .inl rfl
  unfold rowOf
  by_cases hS : ∃ m, Pick.kept P 8 m = ⊥
  · obtain ⟨m, hm⟩ := hS
    have e : (∑ m, Pick.kept P 8 m) = ⊥ := by
      rw [← Finset.add_sum_erase _ _ (Finset.mem_univ m), hm, EReal.bot_add]
    rw [e, EReal.bot_add]
    simp [Ideal.div]
  · have h0 : ∀ m, Pick.kept P 8 m = 0 := fun m => (hk m).resolve_right fun he => hS ⟨m, he⟩
    rw [h0, Finset.sum_eq_zero fun m _ => h0 m, zero_add]
    unfold Ideal.div
    rw [if_neg small_pos.ne', zero_mul]

omit p in
/-- One group of the reference, read at a lane, is the row selected from its own pooled weights. -/
theorem group_own (x1 : FVec Ideal S1x2048 .f32) (n : Fin 1024) :
    lanesR (groupR L (val_main_v15 (F := Ideal) x1)) n
      = rowOf (fun m => ∑ s, Ideal.div (ex (tokR L s) m) (total (tokR L s)) * share (fun t => x1 (ix2 (0 : Fin 1) t)) s) n := by
  have e : lanesR (poolR (val_main_v15 (F := Ideal) x1) (softR (expR L)))
      = fun m => ∑ s, Ideal.div (ex (tokR L s) m) (total (tokR L s)) * share (fun t => x1 (ix2 (0 : Fin 1) t)) s := by
    funext m
    refine (pool_at _ _ m).trans ?_
    exact Finset.sum_congr rfl fun s _ => congrArg₂ (· * ·) (soft_at L s m) (share_at x1 s)
  unfold groupR rowOf
  have hs : (∑ m, lanesR (sparseR (poolR (val_main_v15 (F := Ideal) x1) (softR (expR L)))) m)
      = ∑ m, Pick.kept (fun m => ∑ s, Ideal.div (ex (tokR L s) m) (total (tokR L s)) * share (fun t => x1 (ix2 (0 : Fin 1) t)) s) 8 m :=
    Finset.sum_congr rfl fun m _ => by rw [sparse_lane, e]
  rw [norm_lane, sparse_lane, e, hs]

omit p in
/-- One group of the reference, read at a lane, when its scores are settled and no importance is negative. -/
theorem group_at (x1 : FVec Ideal S1x2048 .f32) (h : Settled (tokR L)) (hp : ∀ t, 0 ≤ x1 (ix2 (0 : Fin 1) t)) (n : Fin 1024) :
    lanesR (groupR L (val_main_v15 (F := Ideal) x1)) n = rowOf (pool (fun t => x1 (ix2 (0 : Fin 1) t)) (tokR L)) n := by
  rw [group_own]
  rcases h with h | h
  · exact congrArg (fun P => rowOf P n) (funext fun m => pool_eq _ _ h m)
  · rw [rowOf_flat _ (fun m => pool_flat _ _ hp h m) n, rowOf_flat _ (fun m => .inl (pool_zero _ _ h m)) n]

end Cert.Proof.RefPool

end
-- ==== Proof.KerPool.lean ====
module

public import proofs.«01_k».proof.Proof.Rounds
public import proofs.«01_k».proof.Proof.RefPool

@[expose] public section

noncomputable section

/-! # The kernel's group as plain sums

The kernel's scores, shares and pooled weights, read at an entry, are the plain ones; so its group is the row selected from them. -/

namespace Cert.Proof.KerPool

open Cert.KernelIdeal Cert.KernelIdeal.Gen Idealize.ShloMosaic Idealize.ShloMosaic.ValueIdx Cert.Proof.Rows Cert.Proof.Rounds Cert.Proof.Pool
open Cert.Proof.RefPool (rowOf)

/-- A column spread along rows of 64 reads the column. -/
theorem spread64 (v : S1024x1.Idx → EReal) (n : Fin 1024) (d : Fin 64) :
    broadcastTo S1024x64 v broadcasts_S1024x1_S1024x64 (ix2 n d) = v (ix2 n (0 : Fin 1)) := by
  refine broadcastTo_apply v _ _ _ fun a => ?_
  match a with
  | ⟨0, _⟩ => rfl
  | ⟨1, _⟩ => rfl

/-- A column spread along rows of 1024 reads the column. -/
theorem spread1024 (v : S2048x1.Idx → EReal) (s : Fin 2048) (n : Fin 1024) :
    broadcastTo S2048x1024 v broadcasts_S2048x1_S2048x1024 (ix2 s n) = v (ix2 s (0 : Fin 1)) := by
  refine broadcastTo_apply v _ _ _ fun a => ?_
  match a with
  | ⟨0, _⟩ => rfl
  | ⟨1, _⟩ => rfl

/-- A bias spread over the tokens reads the bias. -/
theorem spreadBias (v : S1x64.Idx → EReal) (s : Fin 2048) (d : Fin 64) :
    broadcastTo S2048x64 v broadcasts_S1x64_S2048x64 (ix2 s d) = v (ix2 (0 : Fin 1) d) := by
  refine broadcastTo_apply v _ _ _ fun a => ?_
  match a with
  | ⟨0, _⟩ => rfl
  | ⟨1, _⟩ => rfl

/-- A vector of tokens as a column reads the vector. -/
theorem tokenCol (v : S2048.Idx → EReal) (s : Fin 2048) :
    shapeCast S2048x1 v shapeCasts_S2048_S2048x1 (ix2 s (0 : Fin 1)) = v (ix1 s) := by
  refine shapeCast_apply v shapeCasts_S2048_S2048x1 _ _ ?_
  rw [Shape.rowMajor_val_one, Shape.rowMajor_val_two]
  show s.val = s.val * 1 + 0
  omega

/-- A vector of rows as a column reads the vector. -/
theorem rowCol (v : S1024.Idx → EReal) (n : Fin 1024) :
    shapeCast S1024x1 v shapeCasts_S1024_S1024x1 (ix2 n (0 : Fin 1)) = v (ix1 n) := by
  refine shapeCast_apply v shapeCasts_S1024_S1024x1 _ _ ?_
  rw [Shape.rowMajor_val_one, Shape.rowMajor_val_two]
  show n.val = n.val * 1 + 0
  omega

/-- A vector of lanes as a row reads the vector. -/
theorem laneRow (v : S1024.Idx → EReal) (n : Fin 1024) :
    shapeCast S1x1024 v shapeCasts_S1024_S1x1024 (ix2 (0 : Fin 1) n) = v (ix1 n) := by
  refine shapeCast_apply v shapeCasts_S1024_S1x1024 _ _ ?_
  rw [Shape.rowMajor_val_one, Shape.rowMajor_val_two]
  show n.val = 0 * 1024 + n.val
  omega

/-- The sum of a row of 64. -/
theorem sum64 (v : FVec Ideal S1024x64 .f32) (n : Fin 1024) :
    multiReduction .add [1] S1024 v 0x00000000#32 reduces_S1024x64_S1024 (.inl rfl) rfl (ix1 n) = ∑ d : Fin 64, v (ix2 n d) := by
  refine (Ideal.multiReduction_add_single _ _ _ _ _ _).trans (Finset.sum_congr rfl fun k _ => congrArg v (funext fun a => Fin.ext ?_))
  match a with
  | ⟨0, _⟩ => rfl
  | ⟨1, _⟩ => rfl

/-- The sum of a token's row. -/
theorem sumRow (v : FVec Ideal S2048x1024 .f32) (s : Fin 2048) :
    multiReduction .add [1] S2048 v 0x00000000#32 reduces_S2048x1024_S2048 (.inl rfl) rfl (ix1 s) = ∑ n : Fin 1024, v (ix2 s n) := by
  refine (Ideal.multiReduction_add_single _ _ _ _ _ _).trans (Finset.sum_congr rfl fun k _ => congrArg v (funext fun a => Fin.ext ?_))
  match a with
  | ⟨0, _⟩ => rfl
  | ⟨1, _⟩ => rfl

/-- The sum over the tokens at a lane. -/
theorem sumTok (v : FVec Ideal S2048x1024 .f32) (n : Fin 1024) :
    multiReduction .add [0] S1024 v 0x00000000#32 reduces_S2048x1024_S1024 (.inl rfl) rfl (ix1 n) = ∑ s : Fin 2048, v (ix2 s n) := by
  refine (Ideal.multiReduction_add_single _ _ _ _ _ _).trans (Finset.sum_congr rfl fun k _ => congrArg v (funext fun a => Fin.ext ?_))
  match a with
  | ⟨0, _⟩ => rfl
  | ⟨1, _⟩ => rfl

/-- The largest entry of a token's row. -/
theorem maxRow (v : FVec Ideal S2048x1024 .f32) (s : Fin 2048) :
    multiReduction .maximumf [1] S2048 v 0xFF800000#32 reduces_S2048x1024_S2048 (.inl rfl) rfl (ix1 s) = top fun n => v (ix2 s n) := by
  refine (Ideal.multiReduction_maximumf_single _ _ _ _ _ _).trans ?_
  refine congrArg₂ (fun b f => Finset.univ.fold max b f) ofBits_bot (funext fun k => congrArg v (funext fun a => Fin.ext ?_))
  match a with
  | ⟨0, _⟩ => rfl
  | ⟨1, _⟩ => rfl

/-- The quotient of two vectors, read at an entry. -/
theorem div_at {s : Shape} (a b : FVec Ideal s .f32) (j : s.Idx) : divf a b j = Ideal.div (a j) (b j) := rfl

/-- The larger of a root and a constant, read at an entry. -/
theorem clamp_at {s : Shape} (a : FVec Ideal s .f32) (j : s.Idx) :
    maximumf (sqrt a) (broadcast s (Scalar.ofBits .f32 0x2B8CBCCC#32)) j = max (Ideal.sqrt (a j)) tiny := rfl

/-- An embedding over its length. -/
theorem emb_at (e : FVec Ideal S1024x64 .f32) (n : Fin 1024) (d : Fin 64) : embV e (ix2 n d) = unit (fun k => e (ix2 n k)) d := by
  unfold embV unit len
  rw [div_at, spread64, clamp_at, rowCol, sum64]
  rfl

/-- The projection of a token on a column. -/
theorem dotProj (x : FVec Ideal S2048x1024 .f32) (w : FVec Ideal S1024x64 .f32) (s : Fin 2048) (d : Fin 64) :
    matmul dot_S2048x1024_S1024x64_S2048x64_1_0_0_1_n_n none x w (constant S2048x64 .f32 0x00000000#32) (ix2 s d)
      = ∑ k : Fin 1024, x (ix2 s k) * w (ix2 k d) := by
  refine (Ideal.matmul_constant_zero_apply dot_S2048x1024_S1024x64_S2048x64_1_0_0_1_n_n none x w (ix2 s d)).trans ?_
  rw [← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 s d)
      ((contrEquiv1 dot_S2048x1024_S1024x64_S2048x64_1_0_0_1_n_n 1024 rfl rfl).symm k) = ix2 s k := funext fun a => Fin.ext (by
    match a with
    | ⟨0, _⟩ => rfl
    | ⟨1, _⟩ => exact (dot_S2048x1024_S1024x64_S2048x64_1_0_0_1_n_n.lhsIdx_val_of_single rfl _ _).trans hk)
  have er : dot_S2048x1024_S1024x64_S2048x64_1_0_0_1_n_n.rhsIdx (ix2 s d)
      ((contrEquiv1 dot_S2048x1024_S1024x64_S2048x64_1_0_0_1_n_n 1024 rfl rfl).symm k) = ix2 k d := funext fun a => Fin.ext (by
    match a with
    | ⟨0, _⟩ => exact (dot_S2048x1024_S1024x64_S2048x64_1_0_0_1_n_n.rhsIdx_val_of_single rfl _ _).trans hk
    | ⟨1, _⟩ => rfl)
  rw [el, er]

/-- The product of a token's activations with an embedding. -/
theorem dotScore (a : FVec Ideal S2048x64 .f32) (e : FVec Ideal S1024x64 .f32) (s : Fin 2048) (n : Fin 1024) :
    matmul dot_S2048x64_S1024x64_S2048x1024_1_1_0_0_n_n none a e (constant S2048x1024 .f32 0x00000000#32) (ix2 s n)
      = ∑ d : Fin 64, a (ix2 s d) * e (ix2 n d) := by
  refine (Ideal.matmul_constant_zero_apply dot_S2048x64_S1024x64_S2048x1024_1_1_0_0_n_n none a e (ix2 s n)).trans ?_
  rw [← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 s n)
      ((contrEquiv1 dot_S2048x64_S1024x64_S2048x1024_1_1_0_0_n_n 64 rfl rfl).symm k) = ix2 s k := funext fun a => Fin.ext (by
    match a with
    | ⟨0, _⟩ => rfl
    | ⟨1, _⟩ => exact (dot_S2048x64_S1024x64_S2048x1024_1_1_0_0_n_n.lhsIdx_val_of_single rfl _ _).trans hk)
  have er : dot_S2048x64_S1024x64_S2048x1024_1_1_0_0_n_n.rhsIdx (ix2 s n)
      ((contrEquiv1 dot_S2048x64_S1024x64_S2048x1024_1_1_0_0_n_n 64 rfl rfl).symm k) = ix2 n k := funext fun a => Fin.ext (by
    match a with
    | ⟨0, _⟩ => rfl
    | ⟨1, _⟩ => exact (dot_S2048x64_S1024x64_S2048x1024_1_1_0_0_n_n.rhsIdx_val_of_single rfl _ _).trans hk)
  rw [el, er]

/-- The sum of two vectors, read at an entry. -/
theorem add_at {s : Shape} (a b : FVec Ideal s .f32) (j : s.Idx) : addf a b j = a j + b j := rfl

/-- A token's activations. -/
theorem proj_at (x : FVec Ideal S2048x1024 .f32) (w : FVec Ideal S1024x64 .f32) (b : FVec Ideal S1x64 .f32) (s : Fin 2048) (d : Fin 64) :
    projV x w b (ix2 s d) = (∑ k : Fin 1024, x (ix2 s k) * w (ix2 k d)) + b (ix2 (0 : Fin 1) d) := by
  unfold projV
  rw [add_at, dotProj, spreadBias]

/-- The token alone indexes a column with a unit axis before it. -/
def tokenEquiv : S1x2048x1.Idx ≃ Fin 2048 where
  toFun i := i 1
  invFun t := ix3 (0 : Fin 1) t (0 : Fin 1)
  left_inv i := funext fun a => by
    match a with
    | ⟨0, _⟩ => exact Subsingleton.elim (α := Fin 1) _ _
    | ⟨1, _⟩ => rfl
    | ⟨2, _⟩ => exact Subsingleton.elim (α := Fin 1) _ _
  right_inv _ := rfl

/-- One token's scores. -/
def tokK (l : FVec Ideal S2048x1024 .f32) (s : Fin 2048) (n : Fin 1024) : EReal := l (ix2 s n)

/-- The kernel's scores are the plain ones. -/
theorem logits_at (x : FVec Ideal S2048x1024 .f32) (w : FVec Ideal S1024x64 .f32) (b : FVec Ideal S1x64 .f32) (e : FVec Ideal S1024x64 .f32)
    (s : Fin 2048) (n : Fin 1024) :
    tokK (logitsV x w b e) s n
      = score (fun k => x (ix2 s k)) (fun k d => w (ix2 k d)) (fun d => b (ix2 (0 : Fin 1) d)) (fun d => e (ix2 n d)) := by
  unfold tokK logitsV score
  rw [dotScore, shapeCast_self, shapeCast_self]
  exact Finset.sum_congr rfl fun d _ => by rw [proj_at, emb_at]

/-- The exponential of a difference, read at an entry. -/
theorem expSub_at {s : Shape} (a b : FVec Ideal s .f32) (j : s.Idx) : exp (subf a b) j = Ideal.exp (a j - b j) := rfl

/-- The exponential of a score. -/
theorem exp_at (l : FVec Ideal S2048x1024 .f32) (s : Fin 2048) (n : Fin 1024) : expV l (ix2 s n) = ex (tokK l s) n := by
  unfold expV ex
  rw [expSub_at, spread1024, tokenCol, maxRow]
  rfl

/-- The product of two vectors, read at an entry. -/
theorem mul_at {s : Shape} (a b : FVec Ideal s .f32) (j : s.Idx) : mulf a b j = a j * b j := rfl

/-- The pooled weights in terms of a column of shares. -/
theorem pool_at (p : FVec Ideal S2048x1 .f32) (l : FVec Ideal S2048x1024 .f32) (n : Fin 1024) :
    lanes (poolV p l) n = ∑ s : Fin 2048, ex (tokK l s) n * Ideal.div (p (ix2 s (0 : Fin 1))) (total (tokK l s)) := by
  unfold lanes poolV
  rw [laneRow, sumTok]
  refine Finset.sum_congr rfl fun s _ => ?_
  rw [mul_at, spread1024, div_at, tokenCol, sumRow, exp_at]
  exact congrArg (fun z => _ * Ideal.div _ z) (Finset.sum_congr rfl fun k _ => exp_at l s k)

/-- The tokens' column summed whole. -/
theorem sumCol (v : FVec Ideal S2048x1 .f32) :
    multiReduction .add [1, 2] S1 (shapeCast S1x2048x1 v shapeCasts_S2048x1_S1x2048x1) 0x00000000#32 reduces_S1x2048x1_S1 (.inl rfl) rfl
      (ix1 (0 : Fin 1)) = ∑ t : Fin 2048, v (ix2 t (0 : Fin 1)) := by
  refine (Ideal.multiReduction_add_total _ _ _ (by decide) _ _ _).trans ?_
  refine (Equiv.sum_comp tokenEquiv.symm _).symm.trans (Finset.sum_congr rfl fun t _ => ?_)
  exact shapeCast_ab_1ab_apply _ _ _ _ _

/-- The kernel's quotient of a column by a scalar, read at a token. -/
theorem divScalar_at (v : FVec Ideal S2048x1 .f32) (a : EReal) (s : Fin 2048) :
    divf v (broadcast S2048x1 (Scalar.addf (F := Ideal) (φ := .f32) a (Scalar.ofBits .f32 0x322BCC77#32))) (ix2 s (0 : Fin 1))
      = Ideal.div (v (ix2 s (0 : Fin 1))) (a + small) := rfl

/-- The kernel's shares are the plain ones. -/
theorem share_at (p : FVec Ideal S2048x1 .f32) (s : Fin 2048) :
    k0_pay3 (F := Ideal) p (ix2 s (0 : Fin 1)) = share (fun t => p (ix2 t (0 : Fin 1))) s := by
  unfold k0_pay3 share
  dsimp only
  rw [shapeCast_self, divScalar_at, scalar_eq, sumCol]

/-- The kernel's pooled weights are the plain ones. -/
theorem pooled (p : FVec Ideal S2048x1 .f32) (l : FVec Ideal S2048x1024 .f32) :
    lanes (poolV (k0_pay3 p) l) = pool (fun t => p (ix2 t (0 : Fin 1))) (tokK l) := by
  funext n
  rw [pool_at]
  unfold Pool.pool
  exact Finset.sum_congr rfl fun s _ => by rw [share_at]

/-- A row of entries that are not negative, its best entries kept and divided by their total. -/
theorem norm_kept (P : FVec Ideal S1x1024 .f32) (h : ∀ m, 0 ≤ lanes P m) (n : Fin 1024) :
    normV (keptV iiV P 8) (ix3 (0 : Fin 1) (0 : Fin 1) n) = rowOf (lanes P) n := by
  have hk : ∀ m, lanes (keptV iiV P 8) m = Pick.kept (lanes P) 8 m := fun m => keptV_lane P h 8 (by omega) m
  generalize keptV iiV P 8 = K at hk
  unfold rowOf
  rw [normV_lane, hk]
  exact congrArg (fun z => Ideal.div _ (z + small)) (Finset.sum_congr rfl fun m _ => hk m)

/-- The kernel's group, read at a lane, when its scores are settled and no importance is negative. -/
theorem row_at (x : FVec Ideal S2048x1024 .f32) (p : FVec Ideal S2048x1 .f32) (w : FVec Ideal S1024x64 .f32) (b : FVec Ideal S1x64 .f32)
    (e : FVec Ideal S1024x64 .f32) (S : Fin 2048 → Fin 1024 → EReal)
    (hS : ∀ s n, score (fun k => x (ix2 s k)) (fun k d => w (ix2 k d)) (fun d => b (ix2 (0 : Fin 1) d)) (fun d => e (ix2 n d)) = S s n)
    (h : Settled S) (hp : ∀ t, 0 ≤ p (ix2 t (0 : Fin 1))) (n : Fin 1024) :
    rowV (F := Ideal) x p w b e (ix3 (0 : Fin 1) (0 : Fin 1) n) = rowOf (pool (fun t => p (ix2 t (0 : Fin 1))) S) n := by
  have hl : tokK (logitsV (k0_pay2 (F := Ideal) x) w b e) = S := by
    funext s m
    rw [logits_at, ← hS]
    unfold k0_pay2
    rw [shapeCast_self]
  have hP := pooled p (logitsV (k0_pay2 (F := Ideal) x) w b e)
  rw [hl] at hP
  have h0 : ∀ m, 0 ≤ lanes (poolV (k0_pay3 (F := Ideal) p) (logitsV (k0_pay2 (F := Ideal) x) w b e)) m := fun m => by
    rw [hP]
    exact pool_nonneg _ _ hp h m
  unfold rowV
  rw [norm_kept _ h0, hP]

end Cert.Proof.KerPool

end
-- ==== Proof.RefScore.lean ====
module

public import proofs.«01_k».proof.Proof.RefPool

@[expose] public section

noncomputable section

/-! # The reference's scores

Every score of the reference is the plain score of a token against an embedding through one group's columns. -/

namespace Cert.Proof.RefScore

open Cert.ReferenceIdeal Cert.ReferenceIdeal.Gen Cert.ReferenceIdeal.Read Idealize.ShloMosaic Idealize.ShloMosaic.ValueIdx Cert.Proof.Pool Cert.Proof.RefPool

variable (x0 : FVec Ideal S1x2048x1024 .f32) (x2 : FVec Ideal S1024x384 .f32) (x3 : FVec Ideal S384 .f32) (x4 : FVec Ideal S8192x64 .f32)

/-- Column `d` of group `g`. -/
def col (g : Fin 6) (d : Fin 64) : Fin 384 := ⟨64 * g.val + d.val, by have := g.isLt; have := d.isLt; omega⟩

/-- Embedding `n` of group `g`. -/
def row (g : Fin 6) (n : Fin 1024) : Fin 8192 := ⟨1024 * g.val + n.val, by have := g.isLt; have := n.isLt; omega⟩

/-- The plain scores of group `g`. -/
def scores (g : Fin 6) (s : Fin 2048) (n : Fin 1024) : EReal :=
  score (fun k => x0 (ix3 (0 : Fin 1) s k)) (fun k d => x2 (ix2 k (col g d))) (fun d => x3 (ix1 (col g d))) (fun d => x4 (ix2 (row g n) d))

omit x0 x2 x3 in
/-- An embedding over its length. -/
theorem unit_at (N : Fin 8192) (d : Fin 64) : val_main_v8 (F := Ideal) x4 (ix2 N d) = unit (fun k => x4 (ix2 N k)) d := by
  have hl : val_main_v6 (F := Ideal) x4 (idx_main_v7 (ix2 N d)) = len (fun k => x4 (ix2 N k)) := by
    rw [val_main_v6_apply, val_main_call1_v1_apply, val_main_call1_v0_apply, val_main_cst_apply, val_main_v5_apply, val_main_call0_v2_apply,
      val_main_call0_v1_apply, val_main_call0_cst_apply]
    refine (max_comm _ _).trans (congrArg (fun z => max (Ideal.sqrt z) tiny) ?_)
    refine (congrArg (· + _) Ideal.ofBits_zero_f32).trans ((zero_add _).trans (Finset.sum_congr rfl fun k _ => ?_))
    have e : idx_main_call0_v1 (idx_main_call0_v2 (idx_main_v7 (ix2 N d))) k = ix2 N k := funext fun a => Fin.ext (by
      match a with | ⟨0, _⟩ => rfl | ⟨1, _⟩ => rfl)
    rw [e, val_main_call0_v0_apply]
    rfl
  rw [val_main_v8_apply, val_main_v7_apply, hl]
  rfl

omit x4 in
/-- A token's activation in a group. -/
theorem proj_at (s : Fin 2048) (g : Fin 6) (d : Fin 64) :
    val_main_v4 (F := Ideal) x0 x2 x3 (ix4 (0 : Fin 1) s g d)
      = (∑ k : Fin 1024, x0 (ix3 (0 : Fin 1) s k) * x2 (ix2 k (col g d))) + x3 (ix1 (col g d)) := by
  have hi : idx_main_v4 (ix4 (0 : Fin 1) s g d) = ix3 (0 : Fin 1) s (col g d) := funext fun a => Fin.ext (by
    have hs := s.isLt; have hg := g.isLt; have hd := d.isLt
    match a with
    | ⟨0, _⟩ => rfl
    | ⟨1, _⟩ => show (((0 * 2048 + s.val) * 6 + g.val) * 64 + d.val) / 384 % 2048 = s.val; omega
    | ⟨2, _⟩ => show (((0 * 2048 + s.val) * 6 + g.val) * 64 + d.val) % 384 = 64 * g.val + d.val; omega)
  rw [val_main_v4_apply, hi, val_main_v3_apply, val_main_v0_apply, val_main_v2_apply, val_main_v1_apply]
  have el : ∀ k, lidx_main_v0 (ix3 (0 : Fin 1) s (col g d)) k = ix3 (0 : Fin 1) s k := fun k => funext fun a => Fin.ext (by
    match a with | ⟨0, _⟩ => rfl | ⟨1, _⟩ => rfl | ⟨2, _⟩ => rfl)
  have er : ∀ k, ridx_main_v0 (ix3 (0 : Fin 1) s (col g d)) k = ix2 k (col g d) := fun k => funext fun a => Fin.ext (by
    match a with | ⟨0, _⟩ => rfl | ⟨1, _⟩ => rfl)
  have eb : idx_main_v1 (idx_main_v2 (ix3 (0 : Fin 1) s (col g d))) = ix1 (col g d) := funext fun a => Fin.ext (by
    match a with | ⟨0, _⟩ => rfl)
  simp only [el, er, eb, Ideal.addf_def]

/-- A score. -/
theorem score_at (s : Fin 2048) (g : Fin 6) (n : Fin 1024) :
    val_main_v9 (F := Ideal) x0 x2 x3 x4 (ix4 (0 : Fin 1) s g (row g n)) = scores x0 x2 x3 x4 g s n := by
  unfold scores score
  rw [val_main_v9_apply]
  refine Finset.sum_congr rfl fun d _ => ?_
  have el : lidx_main_v9 (ix4 (0 : Fin 1) s g (row g n)) d = ix4 (0 : Fin 1) s g d := funext fun a => Fin.ext (by
    match a with | ⟨0, _⟩ => rfl | ⟨1, _⟩ => rfl | ⟨2, _⟩ => rfl | ⟨3, _⟩ => rfl)
  have er : ridx_main_v9 (ix4 (0 : Fin 1) s g (row g n)) d = ix2 (row g n) d := funext fun a => Fin.ext (by
    match a with | ⟨0, _⟩ => rfl | ⟨1, _⟩ => rfl)
  rw [el, er, proj_at, unit_at]

omit x0 x2 x3 x4 in
/-- The unit axis of a cut is dropped. -/
theorem drop_at (y : S1x2048x1x1024.Idx → EReal) (s : Fin 2048) (n : Fin 1024) :
    shapeCast S1x2048x1024 y shapeCasts_S1x2048x1x1024_S1x2048x1024 (ix3 (0 : Fin 1) s n) = y (ix4 (0 : Fin 1) s (0 : Fin 1) n) := by
  refine shapeCast_apply y shapeCasts_S1x2048x1x1024_S1x2048x1024 _ _ ?_
  rw [Shape.rowMajor_val_four, Shape.rowMajor_val_three]
  show ((0 * 2048 + s.val) * 1 + 0) * 1024 + n.val = (0 * 2048 + s.val) * 1024 + n.val
  omega

omit x0 x2 x3 x4 in
/-- A group's part of an array of scores. -/
theorem slice_at (y : S1x2048x6x8192.Idx → EReal) {off : Fin 4 → Nat} (h : S1x2048x6x8192.Slices off S1x2048x1x1024) (g : Fin 6) (h0 : off 0 = 0)
    (h1 : off 1 = 0) (h2 : off 2 = g.val) (h3 : off 3 = 1024 * g.val) (s : Fin 2048) (n : Fin 1024) :
    extractStridedSlice S1x2048x1x1024 off y h (ix4 (0 : Fin 1) s (0 : Fin 1) n) = y (ix4 (0 : Fin 1) s g (row g n)) := by
  refine extractStridedSlice_apply off y h _ _ fun a => ?_
  match a with
  | ⟨0, _⟩ => show 0 = off 0 + 0; omega
  | ⟨1, _⟩ => show s.val = off 1 + s.val; omega
  | ⟨2, _⟩ => show g.val = off 2 + 0; omega
  | ⟨3, _⟩ => show 1024 * g.val + n.val = off 3 + n.val; omega

/-- The scores of a group cut out of all of them. -/
theorem cut_at {off : Fin 4 → Nat} (h : S1x2048x6x8192.Slices off S1x2048x1x1024) (g : Fin 6) (h0 : off 0 = 0) (h1 : off 1 = 0)
    (h2 : off 2 = g.val) (h3 : off 3 = 1024 * g.val) (s : Fin 2048) (n : Fin 1024) :
    shapeCast S1x2048x1024 (extractStridedSlice S1x2048x1x1024 off (val_main_v9 (F := Ideal) x0 x2 x3 x4) h) shapeCasts_S1x2048x1x1024_S1x2048x1024
      (ix3 (0 : Fin 1) s n) = scores x0 x2 x3 x4 g s n := by
  rw [drop_at, slice_at _ h g h0 h1 h2 h3, score_at]

end Cert.Proof.RefScore

end
-- ==== Proof.RefValue.lean ====
module

public import proofs.«01_k».proof.Proof.RefScore

@[expose] public section

noncomputable section

/-! # The reference's result

Each row of the reference's result is the plain row of its group. -/

namespace Cert.Proof.RefValue

open Cert.ReferenceIdeal Cert.ReferenceIdeal.Gen Cert.ReferenceIdeal.Read Idealize.ShloMosaic Idealize.ShloMosaic.ValueIdx Cert.Proof.Pool Cert.Proof.RefPick Cert.Proof.RefPool Cert.Proof.RefScore

variable (x0 : FVec Ideal S1x2048x1024 .f32) (x1 : FVec Ideal S1x2048 .f32) (x2 : FVec Ideal S1024x384 .f32) (x3 : FVec Ideal S384 .f32)
  (x4 : FVec Ideal S8192x64 .f32)

/-- The plain result: group `g`'s row at lane `n`. -/
def result (g : Fin 6) (n : Fin 1024) : EReal := rowOf (pool (fun t => x1 (ix2 (0 : Fin 1) t)) (scores x0 x2 x3 x4 g)) n

/-- A group whose scores are the plain ones gives the plain row. -/
theorem group_row (L : FVec Ideal S1x2048x1024 .f32) (g : Fin 6) (hL : ∀ s n, L (ix3 (0 : Fin 1) s n) = scores x0 x2 x3 x4 g s n)
    (h : Settled (scores x0 x2 x3 x4 g)) (hp : ∀ t, 0 ≤ x1 (ix2 (0 : Fin 1) t)) (n : Fin 1024) :
    groupR L (val_main_v15 (F := Ideal) x1) (ix2 (0 : Fin 1) n) = result x0 x1 x2 x3 x4 g n := by
  have e : tokR L = scores x0 x2 x3 x4 g := funext fun s => funext fun m => hL s m
  refine (group_at L x1 ?_ hp n).trans ?_
  · rw [e]; exact h
  · rw [e]; rfl

/-- Group zero of the reference is the generic group. -/
theorem group_zero : val_main_v53 (F := Ideal) x0 x1 x2 x3 x4 = groupR (val_main_v17 (F := Ideal) x0 x2 x3 x4) (val_main_v15 (F := Ideal) x1) := rfl

/-- Group one of the reference is the generic group. -/
theorem group_one : val_main_v91 (F := Ideal) x0 x1 x2 x3 x4 = groupR (val_main_v55 (F := Ideal) x0 x2 x3 x4) (val_main_v15 (F := Ideal) x1) := rfl

/-- Group two of the reference is the generic group. -/
theorem group_two : val_main_v129 (F := Ideal) x0 x1 x2 x3 x4 = groupR (val_main_v93 (F := Ideal) x0 x2 x3 x4) (val_main_v15 (F := Ideal) x1) := rfl

/-- Group three of the reference is the generic group. -/
theorem group_three : val_main_v167 (F := Ideal) x0 x1 x2 x3 x4 = groupR (val_main_v131 (F := Ideal) x0 x2 x3 x4) (val_main_v15 (F := Ideal) x1) := rfl

/-- Group four of the reference is the generic group. -/
theorem group_four : val_main_v205 (F := Ideal) x0 x1 x2 x3 x4 = groupR (val_main_v169 (F := Ideal) x0 x2 x3 x4) (val_main_v15 (F := Ideal) x1) := rfl

/-- Group five of the reference is the generic group. -/
theorem group_five : val_main_v243 (F := Ideal) x0 x1 x2 x3 x4 = groupR (val_main_v207 (F := Ideal) x0 x2 x3 x4) (val_main_v15 (F := Ideal) x1) := rfl

/-- A row viewed as a block of the result. -/
theorem block_at (y : FVec Ideal S1x1024 .f32) (n : Fin 1024) :
    broadcastInDim S1x1x1024 ![1, 2] bcast_S1x1024_S1x1x1024_1_2 y (ix3 (0 : Fin 1) (0 : Fin 1) n) = y (ix2 (0 : Fin 1) n) :=
  broadcastInDim_apply _ bcast_S1x1024_S1x1x1024_1_2 y _ _ fun a => by match a with | ⟨0, _⟩ => rfl | ⟨1, _⟩ => rfl

/-- The blocks of the result, in order. -/
def blocks : List ((s : Shape) × (s.Idx → EReal)) :=
  [⟨S1x1x1024, val_main_v244 (F := Ideal) x0 x1 x2 x3 x4⟩, ⟨S1x1x1024, val_main_v245 (F := Ideal) x0 x1 x2 x3 x4⟩, ⟨S1x1x1024, val_main_v246 (F := Ideal) x0 x1 x2 x3 x4⟩, ⟨S1x1x1024, val_main_v247 (F := Ideal) x0 x1 x2 x3 x4⟩, ⟨S1x1x1024, val_main_v248 (F := Ideal) x0 x1 x2 x3 x4⟩, ⟨S1x1x1024, val_main_v249 (F := Ideal) x0 x1 x2 x3 x4⟩]

/-- The reference's result at a row and a lane is the block of that row at the lane. -/
theorem pick_block (g : Fin 6) (y : FVec Ideal S1x1x1024 .f32) (hk : g.val < (blocks x0 x1 x2 x3 x4).length)
    (hy : (blocks x0 x1 x2 x3 x4)[g.val] = ⟨S1x1x1024, y⟩)
    (hp : ((((blocks x0 x1 x2 x3 x4).take g.val).map (·.1)).map fun s => if h : s.rank = S6x1x1024.rank then s.size ((0 : Fin 3).cast h.symm) else 0).sum = g.val)
    (n : Fin 1024) :
    val_main_v250 (F := Ideal) x0 x1 x2 x3 x4 (ix3 g (0 : Fin 1) n) = y (ix3 (0 : Fin 1) (0 : Fin 1) n) := by
  unfold val_main_v250
  refine concatenate_apply_piece (t := S6x1x1024) 0 (blocks x0 x1 x2 x3 x4) _ (ix3 g (0 : Fin 1) n) g.val hk S1x1x1024 y hy rfl g.val hp
    (ix3 (0 : Fin 1) (0 : Fin 1) n) (fun b hb => ?_) rfl
  match b with
  | ⟨0, _⟩ => exact absurd rfl hb
  | ⟨1, _⟩ => rfl
  | ⟨2, _⟩ => rfl

/-- The reference's result is the plain one when the scores are settled and no importance is negative. -/
theorem result_at (h : ∀ g, Settled (scores x0 x2 x3 x4 g)) (hp : ∀ t, 0 ≤ x1 (ix2 (0 : Fin 1) t)) (g : Fin 6) (n : Fin 1024) :
    val_main_v250 (F := Ideal) x0 x1 x2 x3 x4 (ix3 g (0 : Fin 1) n) = result x0 x1 x2 x3 x4 g n := by
  match g with
  | ⟨0, _⟩ =>
    refine (pick_block x0 x1 x2 x3 x4 0 (val_main_v244 (F := Ideal) x0 x1 x2 x3 x4) (0 : Fin 6).isLt rfl rfl n).trans ?_
    unfold val_main_v244
    rw [block_at, group_zero]
    exact group_row x0 x1 x2 x3 x4 _ 0 (fun s m => cut_at x0 x2 x3 x4 _ 0 rfl rfl rfl rfl s m) (h 0) hp n
  | ⟨1, _⟩ =>
    refine (pick_block x0 x1 x2 x3 x4 1 (val_main_v245 (F := Ideal) x0 x1 x2 x3 x4) (1 : Fin 6).isLt rfl rfl n).trans ?_
    unfold val_main_v245
    rw [block_at, group_one]
    exact group_row x0 x1 x2 x3 x4 _ 1 (fun s m => cut_at x0 x2 x3 x4 _ 1 rfl rfl rfl rfl s m) (h 1) hp n
  | ⟨2, _⟩ =>
    refine (pick_block x0 x1 x2 x3 x4 2 (val_main_v246 (F := Ideal) x0 x1 x2 x3 x4) (2 : Fin 6).isLt rfl rfl n).trans ?_
    unfold val_main_v246
    rw [block_at, group_two]
    exact group_row x0 x1 x2 x3 x4 _ 2 (fun s m => cut_at x0 x2 x3 x4 _ 2 rfl rfl rfl rfl s m) (h 2) hp n
  | ⟨3, _⟩ =>
    refine (pick_block x0 x1 x2 x3 x4 3 (val_main_v247 (F := Ideal) x0 x1 x2 x3 x4) (3 : Fin 6).isLt rfl rfl n).trans ?_
    unfold val_main_v247
    rw [block_at, group_three]
    exact group_row x0 x1 x2 x3 x4 _ 3 (fun s m => cut_at x0 x2 x3 x4 _ 3 rfl rfl rfl rfl s m) (h 3) hp n
  | ⟨4, _⟩ =>
    refine (pick_block x0 x1 x2 x3 x4 4 (val_main_v248 (F := Ideal) x0 x1 x2 x3 x4) (4 : Fin 6).isLt rfl rfl n).trans ?_
    unfold val_main_v248
    rw [block_at, group_four]
    exact group_row x0 x1 x2 x3 x4 _ 4 (fun s m => cut_at x0 x2 x3 x4 _ 4 rfl rfl rfl rfl s m) (h 4) hp n
  | ⟨5, _⟩ =>
    refine (pick_block x0 x1 x2 x3 x4 5 (val_main_v249 (F := Ideal) x0 x1 x2 x3 x4) (5 : Fin 6).isLt rfl rfl n).trans ?_
    unfold val_main_v249
    rw [block_at, group_five]
    exact group_row x0 x1 x2 x3 x4 _ 5 (fun s m => cut_at x0 x2 x3 x4 _ 5 rfl rfl rfl rfl s m) (h 5) hp n

end Cert.Proof.RefValue

end
-- ==== Proof.KerArray.lean ====
module

public import proofs.«01_k».proof.Proof.KerPool
public import proofs.«01_k».proof.Proof.RefValue
public import Idealize.ShloMosaic.Lib.Pipeline.Value

@[expose] public section

noncomputable section

/-! # The kernel's result as a function of its arrays

The six blocks that the body stores are six parts of one function of the arrays: the reference's result. -/

namespace Cert.Proof.KerArray

open Cert.KernelIdeal Cert.KernelIdeal.Gen Idealize.ShloMosaic Idealize.ShloMosaic.ValueIdx Cert.Proof.Rows Cert.Proof.Pool
open Cert.Proof.RefScore (col row scores)
open Cert.Proof.RefValue (result)

variable (X0 : FVec Ideal S2048x1024 .f32) (X1 : FVec Ideal S2048x1 .f32) (X2 : FVec Ideal S1024x384 .f32) (X3 : FVec Ideal S1x384 .f32)
  (X4 : FVec Ideal S6144x64 .f32)
variable (x0 : FVec Ideal S1x2048x1024 .f32) (x1 : FVec Ideal S1x2048 .f32) (x3 : FVec Ideal S384 .f32) (x4 : FVec Ideal S8192x64 .f32)

/-- Embedding `n` of group `g`, among those the kernel is given. -/
def rowK (g : Fin 6) (n : Fin 1024) : Fin 6144 := ⟨1024 * g.val + n.val, by have := g.isLt; have := n.isLt; omega⟩

/-- The kernel's arrays are the arguments, re-laid. -/
structure Relaid : Prop where
  tokens : ∀ s k, X0 (ix2 s k) = x0 (ix3 (0 : Fin 1) s k)
  shares : ∀ t, X1 (ix2 t (0 : Fin 1)) = x1 (ix2 (0 : Fin 1) t)
  bias : ∀ c, X3 (ix2 (0 : Fin 1) c) = x3 (ix1 c)
  rows : ∀ g n d, X4 (ix2 (rowK g n) d) = x4 (ix2 (row g n) d)

/-- One group's block is its part of the result. -/
theorem piece_at (H : Relaid X0 X1 X3 X4 x0 x1 x3 x4) (h : ∀ g, Settled (scores x0 X2 x3 x4 g)) (hp : ∀ t, 0 ≤ x1 (ix2 (0 : Fin 1) t))
    (g : Fin 6) {ow ob oe : Fin 2 → Nat} (iw : ∀ a, ow a + S1024x64.size a ≤ S1024x384.size a) (ib : ∀ a, ob a + S1x64.size a ≤ S1x384.size a)
    (ie : ∀ a, oe a + S1024x64.size a ≤ S6144x64.size a) (hw0 : ow 0 = 0) (hw1 : ow 1 = 64 * g.val) (hb0 : ob 0 = 0) (hb1 : ob 1 = 64 * g.val)
    (he0 : oe 0 = 1024 * g.val) (he1 : oe 1 = 0) (n : Fin 1024) :
    rowV (F := Ideal) (View.ld (Val := Elt Ideal) (e' := .f32) X0 r0_0) (View.ld (Val := Elt Ideal) (e' := .f32) X1 r0_1)
      (View.ld (Val := Elt Ideal) (e' := .f32) X2 (Rect.unit (s := S1024x384) ow S1024x64.size iw))
      (View.ld (Val := Elt Ideal) (e' := .f32) X3 (Rect.unit (s := S1x384) ob S1x64.size ib))
      (View.ld (Val := Elt Ideal) (e' := .f32) X4 (Rect.unit (s := S6144x64) oe S1024x64.size ie)) (ix3 (0 : Fin 1) (0 : Fin 1) n)
      = result x0 x1 X2 x3 x4 g n := by
  have e0 : ∀ s k, View.ld (Val := Elt Ideal) (e' := .f32) X0 r0_0 (ix2 s k) = x0 (ix3 (0 : Fin 1) s k) := fun s k => by
    rw [← H.tokens]
    exact congrArg X0 (funext fun a => Fin.ext (by
      match a with
      | ⟨0, _⟩ => show 0 + 1 * s.val = s.val; omega
      | ⟨1, _⟩ => show 0 + 1 * k.val = k.val; omega))
  have e1 : ∀ t, View.ld (Val := Elt Ideal) (e' := .f32) X1 r0_1 (ix2 t (0 : Fin 1)) = x1 (ix2 (0 : Fin 1) t) := fun t => by
    rw [← H.shares]
    exact congrArg X1 (funext fun a => Fin.ext (by
      match a with
      | ⟨0, _⟩ => show 0 + 1 * t.val = t.val; omega
      | ⟨1, _⟩ => rfl))
  have e2 : ∀ k d, View.ld (Val := Elt Ideal) (e' := .f32) X2 (Rect.unit (s := S1024x384) ow S1024x64.size iw) (ix2 k d) = X2 (ix2 k (col g d)) := fun k d =>
    congrArg X2 (funext fun a => Fin.ext (by
      match a with
      | ⟨0, _⟩ => show ow 0 + 1 * k.val = k.val; omega
      | ⟨1, _⟩ => show ow 1 + 1 * d.val = 64 * g.val + d.val; omega))
  have e3 : ∀ d, View.ld (Val := Elt Ideal) (e' := .f32) X3 (Rect.unit (s := S1x384) ob S1x64.size ib) (ix2 (0 : Fin 1) d) = x3 (ix1 (col g d)) := fun d => by
    rw [← H.bias]
    exact congrArg X3 (funext fun a => Fin.ext (by
      match a with
      | ⟨0, _⟩ => show ob 0 + 1 * 0 = 0; omega
      | ⟨1, _⟩ => show ob 1 + 1 * d.val = 64 * g.val + d.val; omega))
  have e4 : ∀ m d, View.ld (Val := Elt Ideal) (e' := .f32) X4 (Rect.unit (s := S6144x64) oe S1024x64.size ie) (ix2 m d) = x4 (ix2 (row g m) d) := fun m d => by
    rw [← H.rows]
    exact congrArg X4 (funext fun a => Fin.ext (by
      match a with
      | ⟨0, _⟩ => show oe 0 + 1 * m.val = 1024 * g.val + m.val; omega
      | ⟨1, _⟩ => show oe 1 + 1 * d.val = d.val; omega))
  generalize View.ld (Val := Elt Ideal) (e' := .f32) X0 r0_0 = Y0 at e0 ⊢
  generalize View.ld (Val := Elt Ideal) (e' := .f32) X1 r0_1 = Y1 at e1 ⊢
  generalize View.ld (Val := Elt Ideal) (e' := .f32) X2 (Rect.unit (s := S1024x384) ow S1024x64.size iw) = Y2 at e2 ⊢
  generalize View.ld (Val := Elt Ideal) (e' := .f32) X3 (Rect.unit (s := S1x384) ob S1x64.size ib) = Y3 at e3 ⊢
  generalize View.ld (Val := Elt Ideal) (e' := .f32) X4 (Rect.unit (s := S6144x64) oe S1024x64.size ie) = Y4 at e4 ⊢
  have hS : ∀ s m, score (fun k => Y0 (ix2 s k)) (fun k d => Y2 (ix2 k d)) (fun d => Y3 (ix2 (0 : Fin 1) d)) (fun d => Y4 (ix2 m d))
      = scores x0 X2 x3 x4 g s m := fun s m => by
    unfold scores
    simp only [e0, e2, e3, e4]
  have hx : (fun t => Y1 (ix2 t (0 : Fin 1))) = fun t => x1 (ix2 (0 : Fin 1) t) := funext e1
  have hp' : ∀ t, 0 ≤ Y1 (ix2 t (0 : Fin 1)) := fun t => by rw [e1]; exact hp t
  have r := KerPool.row_at Y0 Y1 Y2 Y3 Y4 _ hS (h g) hp' n
  rw [hx] at r
  exact r

/-- A block index has no choice but its lane. -/
theorem lane_index (x : S1x1x1024.Idx) : x = ix3 (0 : Fin 1) (0 : Fin 1) (x 2) := funext fun a => by
  match a with
  | ⟨0, _⟩ => exact Subsingleton.elim (α := Fin 1) _ _
  | ⟨1, _⟩ => exact Subsingleton.elim (α := Fin 1) _ _
  | ⟨2, _⟩ => rfl

/-- The result as a function of its index. -/
def resultAt (x0 : FVec Ideal S1x2048x1024 .f32) (x1 : FVec Ideal S1x2048 .f32) (x2 : FVec Ideal S1024x384 .f32) (x3 : FVec Ideal S384 .f32)
    (x4 : FVec Ideal S8192x64 .f32) (y : S6x1x1024.Idx) : EReal := result x0 x1 x2 x3 x4 (y 0) (y 2)

/-- The result under a group's block. -/
theorem under_at (x2 : FVec Ideal S1024x384 .f32) (g : Fin 6) {o : Fin 3 → Nat} (io : ∀ a, o a + S1x1x1024.size a ≤ S6x1x1024.size a)
    (h0 : o 0 = g.val) (h2 : o 2 = 0) (x : S1x1x1024.Idx) :
    resultAt x0 x1 x2 x3 x4 ((Rect.unit (s := S6x1x1024) o S1x1x1024.size io).emb x) = result x0 x1 x2 x3 x4 g (x 2) := by
  unfold resultAt
  refine congrArg₂ (result x0 x1 x2 x3 x4) (Fin.ext ?_) (Fin.ext ?_)
  · have hx : (x 0).val < 1 := (x 0).isLt
    show o 0 + 1 * (x 0).val = g.val
    omega
  · show o 2 + 1 * (x 2).val = (x 2).val
    omega

/-- One group's block is the result under it. -/
theorem block_at (H : Relaid X0 X1 X3 X4 x0 x1 x3 x4) (h : ∀ g, Settled (scores x0 X2 x3 x4 g)) (hp : ∀ t, 0 ≤ x1 (ix2 (0 : Fin 1) t))
    (g : Fin 6) {ow ob oe : Fin 2 → Nat} {o : Fin 3 → Nat} (iw : ∀ a, ow a + S1024x64.size a ≤ S1024x384.size a)
    (ib : ∀ a, ob a + S1x64.size a ≤ S1x384.size a) (ie : ∀ a, oe a + S1024x64.size a ≤ S6144x64.size a)
    (io : ∀ a, o a + S1x1x1024.size a ≤ S6x1x1024.size a) (hw0 : ow 0 = 0) (hw1 : ow 1 = 64 * g.val) (hb0 : ob 0 = 0) (hb1 : ob 1 = 64 * g.val)
    (he0 : oe 0 = 1024 * g.val) (he1 : oe 1 = 0) (h0 : o 0 = g.val) (h2 : o 2 = 0) (x : S1x1x1024.Idx) :
    rowV (F := Ideal) (View.ld (Val := Elt Ideal) (e' := .f32) X0 r0_0) (View.ld (Val := Elt Ideal) (e' := .f32) X1 r0_1)
      (View.ld (Val := Elt Ideal) (e' := .f32) X2 (Rect.unit (s := S1024x384) ow S1024x64.size iw))
      (View.ld (Val := Elt Ideal) (e' := .f32) X3 (Rect.unit (s := S1x384) ob S1x64.size ib))
      (View.ld (Val := Elt Ideal) (e' := .f32) X4 (Rect.unit (s := S6144x64) oe S1024x64.size ie)) x
      = resultAt x0 x1 X2 x3 x4 ((Rect.unit (s := S6x1x1024) o S1x1x1024.size io).emb x) := by
  rw [under_at x0 x1 x3 x4 X2 g io h0 h2 x, lane_index x]
  exact piece_at X0 X1 X2 X3 X4 x0 x1 x3 x4 H h hp g iw ib ie hw0 hw1 hb0 hb1 he0 he1 (x 2)

/-- What the body leaves in the result's buffer is the result. -/
theorem out_at (H : Relaid X0 X1 X3 X4 x0 x1 x3 x4) (h : ∀ g, Settled (scores x0 X2 x3 x4 g)) (hp : ∀ t, 0 ≤ x1 (ix2 (0 : Fin 1) t))
    (y : S6x1x1024.Idx) : out0_5 (F := Ideal) X0 X1 X2 X3 X4 y = resultAt x0 x1 X2 x3 x4 y := by
  have B := block_at X0 X1 X2 X3 X4 x0 x1 x3 x4 H h hp
  rw [out_eq]
  refine View.canon_apply_of_pieces (Val := Elt Ideal) (e := .f32) (resultAt x0 x1 X2 x3 x4) _ (fun p hp' x => ?_) y (cover0_5 _ _ _ _ _ _ y)
  rcases List.mem_cons.mp hp' with rfl | hp'
  · exact B 5 _ _ _ inb_S6x1x1024_S1x1x1024_5_0_0 rfl rfl rfl rfl rfl rfl rfl rfl x
  rcases List.mem_cons.mp hp' with rfl | hp'
  · exact B 4 _ _ _ inb_S6x1x1024_S1x1x1024_4_0_0 rfl rfl rfl rfl rfl rfl rfl rfl x
  rcases List.mem_cons.mp hp' with rfl | hp'
  · exact B 3 _ _ _ inb_S6x1x1024_S1x1x1024_3_0_0 rfl rfl rfl rfl rfl rfl rfl rfl x
  rcases List.mem_cons.mp hp' with rfl | hp'
  · exact B 2 _ _ _ inb_S6x1x1024_S1x1x1024_2_0_0 rfl rfl rfl rfl rfl rfl rfl rfl x
  rcases List.mem_cons.mp hp' with rfl | hp'
  · exact B 1 _ _ _ inb_S6x1x1024_S1x1x1024_1_0_0 rfl rfl rfl rfl rfl rfl rfl rfl x
  rcases List.mem_cons.mp hp' with rfl | hp'
  · exact B 0 _ _ _ inb_S6x1x1024_S1x1x1024_0_0_0 rfl rfl rfl rfl rfl rfl rfl rfl x
  exact absurd hp' (by simp)

end Cert.Proof.KerArray

end
-- ==== Proof.KerRun.lean ====
module

public import proofs.«01_k».proof.Proof.KerArray
public import proofs.«01_k».proof.Proof.Gen.KernelIdeal.Value
public import Idealize.ShloMosaic.Lib.Claim

@[expose] public section

noncomputable section

/-! # The kernel's result array

The arrays that the body reads are the arguments, re-laid by the host; so the result array is the plain result of the arguments. -/

namespace Cert.Proof.KerRun

open Cert.KernelIdeal Cert.KernelIdeal.Gen Idealize.ShloMosaic Idealize.ShloMosaic.ValueIdx Idealize.ShloMosaic.TcCoe Cert.Proof.KerArray

variable (m : (ℓ : Loc nD τ sig) → Buf (Elt Ideal) ℓ) (c : Dev nD) (t : Fin cfg0.N)

/-- The activations given to the body are the argument with its unit axis dropped. -/
theorem entry_x : (V m c main_v0 : FVec Ideal S2048x1024 .f32)
    = shapeCast S2048x1024 (m ((c : Thread nD τ).loc main_arg0) : FVec Ideal S1x2048x1024 .f32) shapeCasts_S1x2048x1024_S2048x1024 := by
  entry_read
  rfl

/-- The importances given to the body are the argument as a column. -/
theorem entry_p : (V m c main_v1 : FVec Ideal S2048x1 .f32)
    = shapeCast S2048x1 (m ((c : Thread nD τ).loc main_arg1) : FVec Ideal S1x2048 .f32) shapeCasts_S1x2048_S2048x1 := by
  entry_read
  rfl

/-- The bias given to the body is the argument as a row. -/
theorem entry_b : (V m c main_v2 : FVec Ideal S1x384 .f32)
    = shapeCast S1x384 (m ((c : Thread nD τ).loc main_arg3) : FVec Ideal S384 .f32) shapeCasts_S384_S1x384 := by
  entry_read
  rfl

/-- The embeddings given to the body are the first rows of the argument. -/
theorem entry_e : (V m c main_v3 : FVec Ideal S6144x64 .f32)
    = extractStridedSlice S6144x64 ![0, 0] (m ((c : Thread nD τ).loc main_arg4) : FVec Ideal S8192x64 .f32) slices_S8192x64_S6144x64_0_0 := by
  entry_read
  rfl

/-- The first window's block is its array. -/
theorem block0 : (iblk m c 0 t : FVec Ideal S2048x1024 .f32) = V m c main_v0 := by
  funext j
  refine congrArg (V m c main_v0 : FVec Ideal S2048x1024 .f32) (funext fun a => Fin.ext ?_)
  match a with
  | ⟨0, _⟩ => show 0 + 1 * (j 0).val = (j 0).val; omega
  | ⟨1, _⟩ => show 0 + 1 * (j 1).val = (j 1).val; omega

/-- The second window's block is its array. -/
theorem block1 : (iblk m c 1 t : FVec Ideal S2048x1 .f32) = V m c main_v1 := by
  funext j
  refine congrArg (V m c main_v1 : FVec Ideal S2048x1 .f32) (funext fun a => Fin.ext ?_)
  match a with
  | ⟨0, _⟩ => show 0 + 1 * (j 0).val = (j 0).val; omega
  | ⟨1, _⟩ => show 0 + 1 * (j 1).val = (j 1).val; omega

/-- The third window's block is the weight argument. -/
theorem block2 : (iblk m c 2 t : FVec Ideal S1024x384 .f32) = m ((c : Thread nD τ).loc main_arg2) := by
  refine Eq.trans ?_ (V_main_arg2 m c)
  funext j
  refine congrArg (V m c main_arg2 : FVec Ideal S1024x384 .f32) (funext fun a => Fin.ext ?_)
  match a with
  | ⟨0, _⟩ => show 0 + 1 * (j 0).val = (j 0).val; omega
  | ⟨1, _⟩ => show 0 + 1 * (j 1).val = (j 1).val; omega

/-- The fourth window's block is its array. -/
theorem block3 : (iblk m c 3 t : FVec Ideal S1x384 .f32) = V m c main_v2 := by
  funext j
  refine congrArg (V m c main_v2 : FVec Ideal S1x384 .f32) (funext fun a => Fin.ext ?_)
  match a with
  | ⟨0, _⟩ => show 0 + 1 * (j 0).val = (j 0).val; omega
  | ⟨1, _⟩ => show 0 + 1 * (j 1).val = (j 1).val; omega

/-- The fifth window's block is its array. -/
theorem block4 : (iblk m c 4 t : FVec Ideal S6144x64 .f32) = V m c main_v3 := by
  funext j
  refine congrArg (V m c main_v3 : FVec Ideal S6144x64 .f32) (funext fun a => Fin.ext ?_)
  match a with
  | ⟨0, _⟩ => show 0 * 6144 + 1 * (j 0).val = (j 0).val; omega
  | ⟨1, _⟩ => show 0 + 1 * (j 1).val = (j 1).val; omega

/-- The one point writes its block back. -/
theorem flush5 : (cfg0.win 5).flush t = true := by
  revert t
  decide +kernel

/-- The result's block is its array. -/
theorem under5 (A : FVec Ideal S6x1x1024 .f32) (y : S6x1x1024.Idx) : ((cfg0.win 5).blk t).view.read (Elt Ideal) A y = A y := by
  refine congrArg A (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The result array is what the body leaves in its buffer. -/
theorem array_eq (y : S6x1x1024.Idx) : ((dats m 0 c).arrAt 5 cfg0.N : FVec Ideal S6x1x1024 .f32) y
    = out0_5 (F := Ideal) (iblk m c 0 t) (iblk m c 1 t) (iblk m c 2 t) (iblk m c 3 t) (iblk m c 4 t) y := by
  have h := (Cert.KernelIdeal.Value.blocks5 m c t (flush5 t)).trans (Cert.KernelIdeal.Value.flushed5 m c t)
  exact (under5 t _ y).symm.trans (congrFun h y)

/-- Tokens with their unit axis dropped. -/
theorem dropUnit (x : FVec Ideal S1x2048x1024 .f32) (s : Fin 2048) (k : Fin 1024) :
    shapeCast S2048x1024 x shapeCasts_S1x2048x1024_S2048x1024 (ix2 s k) = x (ix3 (0 : Fin 1) s k) := by
  refine shapeCast_apply x _ _ _ ?_
  rw [Shape.rowMajor_val_two, Shape.rowMajor_val_three]
  show (0 * 2048 + s.val) * 1024 + k.val = s.val * 1024 + k.val
  omega

/-- A row of tokens as a column. -/
theorem rowToCol (x : FVec Ideal S1x2048 .f32) (t : Fin 2048) :
    shapeCast S2048x1 x shapeCasts_S1x2048_S2048x1 (ix2 t (0 : Fin 1)) = x (ix2 (0 : Fin 1) t) := by
  refine shapeCast_apply x _ _ _ ?_
  rw [Shape.rowMajor_val_two, Shape.rowMajor_val_two]
  show 0 * 2048 + t.val = t.val * 1 + 0
  omega

/-- A vector of columns as a row. -/
theorem vecToRow (x : FVec Ideal S384 .f32) (d : Fin 384) : shapeCast S1x384 x shapeCasts_S384_S1x384 (ix2 (0 : Fin 1) d) = x (ix1 d) := by
  refine shapeCast_apply x _ _ _ ?_
  rw [Shape.rowMajor_val_two, Shape.rowMajor_val_one]
  show d.val = 0 * 384 + d.val
  omega

/-- The first rows of the embeddings. -/
theorem firstRows (x : FVec Ideal S8192x64 .f32) (g : Fin 6) (n : Fin 1024) (d : Fin 64) :
    extractStridedSlice S6144x64 ![0, 0] x slices_S8192x64_S6144x64_0_0 (ix2 (rowK g n) d) = x (ix2 (RefScore.row g n) d) := by
  refine extractStridedSlice_apply _ x _ _ _ fun a => ?_
  match a with
  | ⟨0, _⟩ => show 1024 * g.val + n.val = 0 + (1024 * g.val + n.val); omega
  | ⟨1, _⟩ => show d.val = 0 + d.val; omega

/-- The arrays that the body reads are the arguments, re-laid. -/
theorem relaid : Relaid (V m c main_v0) (V m c main_v1) (V m c main_v2) (V m c main_v3) (m ((c : Thread nD τ).loc main_arg0))
    (m ((c : Thread nD τ).loc main_arg1)) (m ((c : Thread nD τ).loc main_arg3)) (m ((c : Thread nD τ).loc main_arg4)) where
  tokens s k := by rw [entry_x]; exact dropUnit _ s k
  shares t := by rw [entry_p]; exact rowToCol _ t
  bias d := by rw [entry_b]; exact vecToRow _ d
  rows g n d := by rw [entry_e]; exact firstRows _ g n d

/-- The result array is the plain result of the arguments, when the scores are settled and no importance is negative. -/
theorem array_at
    (h : ∀ g, Pool.Settled (RefScore.scores (m ((c : Thread nD τ).loc main_arg0)) (m ((c : Thread nD τ).loc main_arg2))
      (m ((c : Thread nD τ).loc main_arg3)) (m ((c : Thread nD τ).loc main_arg4)) g))
    (hp : ∀ t, (0 : EReal) ≤ (m ((c : Thread nD τ).loc main_arg1) : FVec Ideal S1x2048 .f32) (ix2 (0 : Fin 1) t)) (y : S6x1x1024.Idx) :
    ((dats m 0 c).arrAt 5 cfg0.N : FVec Ideal S6x1x1024 .f32) y
      = resultAt (m ((c : Thread nD τ).loc main_arg0)) (m ((c : Thread nD τ).loc main_arg1)) (m ((c : Thread nD τ).loc main_arg2))
          (m ((c : Thread nD τ).loc main_arg3)) (m ((c : Thread nD τ).loc main_arg4)) y := by
  have e := array_eq m c ⟨0, by decide⟩ y
  rw [block0, block1, block2, block3, block4] at e
  exact e.trans (out_at _ _ _ _ _ _ _ _ _ (relaid m c) h hp y)

end Cert.Proof.KerRun

end
-- ==== Proof.Admissible.lean ====
module

public import proofs.«01_k».proof.Pre_admissible
public import proofs.«01_k».proof.Proof.RefScore

@[expose] public section

noncomputable section

/-! # What the precondition says

Its three masks hold everywhere just when the activations and the weights are real and no importance is negative;
then the scores of every group are settled, whatever the bias and the embeddings. -/

namespace Cert.Proof.Admissible

open Cert.Pre_admissible Idealize.ShloMosaic Idealize.ShloMosaic.ValueIdx Cert.Proof.Pool
open Cert.Proof.RefScore (scores)

/-- The pattern of infinity. -/
theorem pattern_top : Ideal.ofBits .f32 0x7F800000#32 = ⊤ := by simp [Ideal.ofBits, Ideal.ieee]

/-- A magnitude below infinity belongs to a real. -/
theorem real_of_mask (a : EReal) (h : Ideal.cmp .olt (max a (-a)) (Ideal.ofBits .f32 0x7F800000#32) = 1#1) : IsReal a := by
  refine isReal_of_abs ?_
  rw [pattern_top] at h
  by_contra hn
  simp [Ideal.cmp, hn] at h

/-- A value at least zero is not negative. -/
theorem nonneg_of_mask (a : EReal) (h : Ideal.cmp .oge a (Ideal.ofBits .f32 0x00000000#32) = 1#1) : 0 ≤ a := by
  rw [Ideal.ofBits_zero_f32] at h
  by_contra hn
  simp [Ideal.cmp, hn] at h

variable [Facts]
variable (x0 : FVec Ideal S1x2048x1024 .f32) (x1 : FVec Ideal S1x2048 .f32) (x2 : FVec Ideal S1024x384 .f32) (x3 : FVec Ideal S384 .f32)
  (x4 : FVec Ideal S8192x64 .f32)

/-- The first mask: the activations are real. -/
theorem real_x (h : (fn (F := Ideal) x0 x1 x2 x3 x4).1 = fun _ => 1#1) (i : S1x2048x1024.Idx) : IsReal (x0 i) := real_of_mask _ (congrFun h i)

/-- The second mask: no importance is negative. -/
theorem nonneg_p (h : (fn (F := Ideal) x0 x1 x2 x3 x4).2.1 = fun _ => 1#1) (i : S1x2048.Idx) : 0 ≤ x1 i := nonneg_of_mask _ (congrFun h i)

/-- The third mask: the weights are real. -/
theorem real_w (h : (fn (F := Ideal) x0 x1 x2 x3 x4).2.2 = fun _ => 1#1) (i : S1024x384.Idx) : IsReal (x2 i) := real_of_mask _ (congrFun h i)

/-- Under the precondition every group's scores are settled. -/
theorem settled_scores (h0 : (fn (F := Ideal) x0 x1 x2 x3 x4).1 = fun _ => 1#1) (h2 : (fn (F := Ideal) x0 x1 x2 x3 x4).2.2 = fun _ => 1#1)
    (g : Fin 6) : Settled (scores x0 x2 x3 x4 g) :=
  settled_of_alike _ fun _ _ _ => alike_score _ _ _ _ _ (fun _ => real_x x0 x1 x2 x3 x4 h0 _) (fun _ => real_x x0 x1 x2 x3 x4 h0 _)
    fun _ _ => real_w x0 x1 x2 x3 x4 h2 _

end Cert.Proof.Admissible

end
-- ==== Proof.Algebraic.lean ====
module

public import proofs.«01_k».proof.Defs
public import proofs.«01_k».proof.Proof.Frames
public import proofs.«01_k».proof.Proof.KerRun
public import proofs.«01_k».proof.Proof.Admissible
public import proofs.«01_k».proof.Proof.RefValue

@[expose] public section

noncomputable section

/-! # The two results are one

Over exact numbers, the kernel and the reference end with the same result from the same arguments under the precondition. -/

namespace Cert.Proof.Algebraic

open Idealize.ShloMosaic Idealize.ShloMosaic.ValueIdx Idealize.SL.Sem
open Cert.Proof.KerArray (resultAt)

/-- The reference's result as a function of its index. -/
theorem reference_at (x0 : FVec Ideal Cert.ReferenceIdeal.S1x2048x1024 .f32) (x1 : FVec Ideal Cert.ReferenceIdeal.S1x2048 .f32)
    (x2 : FVec Ideal Cert.ReferenceIdeal.S1024x384 .f32) (x3 : FVec Ideal Cert.ReferenceIdeal.S384 .f32)
    (x4 : FVec Ideal Cert.ReferenceIdeal.S8192x64 .f32) (h : ∀ g, Pool.Settled (RefScore.scores x0 x2 x3 x4 g)) (hp : ∀ t, 0 ≤ x1 (ix2 (0 : Fin 1) t))
    (y : Cert.ReferenceIdeal.S6x1x1024.Idx) :
    Cert.ReferenceIdeal.Read.val_main_v250 (F := Ideal) x0 x1 x2 x3 x4 y = resultAt x0 x1 x2 x3 x4 y := by
  have e : y = ix3 (y 0 : Fin 6) (0 : Fin 1) (y 2 : Fin 1024) := funext fun a => by
    match a with
    | ⟨0, _⟩ => rfl
    | ⟨1, _⟩ => exact Subsingleton.elim (α := Fin 1) _ _
    | ⟨2, _⟩ => rfl
  refine (congrArg _ e).trans (RefValue.result_at x0 x1 x2 x3 x4 h hp (y 0) (y 2))

open Cert.ReferenceIdeal in
/-- The reference ends with its result array at the composed term of its arguments, and these unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v250) = Read.val_main_v250 (F := Ideal) (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (Read.val_main_v250_eq (StableHlo.launchContents m c)), (h c).2⟩) (Value.run m ρ)

/-- The kernel and the reference agree. -/
theorem algebraic [Cert.Pre_admissible.Facts] : Cert.algebraic_KernelIdeal_ReferenceIdeal_pre_admissible := by
  intro m g m' g' hpre hagree
  refine ⟨fun c => resultAt (m (c.tc.loc Cert.KernelIdeal.main_arg0)) (m (c.tc.loc Cert.KernelIdeal.main_arg1))
    (m (c.tc.loc Cert.KernelIdeal.main_arg2)) (m (c.tc.loc Cert.KernelIdeal.main_arg3)) (m (c.tc.loc Cert.KernelIdeal.main_arg4)), ?_, ?_⟩
  · refine (θ_run Cert.KernelIdeal.defs _ _).mono (fun r hr c => ⟨(hr c).1.trans (funext fun y => ?_), (hr c).2⟩)
      (Cert.KernelIdeal.Value.run_blocks m g)
    obtain ⟨h0, h1, h2⟩ := hpre c
    exact KerRun.array_at m c (Admissible.settled_scores _ _ _ _ _ h0 h2) (fun t => Admissible.nonneg_p _ _ _ _ _ h1 _) y
  · refine (θ_run Cert.ReferenceIdeal.defs _ _).mono (fun r hr c => ⟨(hr c).1.trans ?_, (hr c).2⟩) (reference_run m' g')
    obtain ⟨h0, h1, h2⟩ := hpre c
    obtain ⟨a0, a1, a2, a3, a4⟩ := hagree c
    rw [a0, a1, a2, a3, a4]
    exact funext fun y => reference_at _ _ _ _ _ (Admissible.settled_scores _ _ _ _ _ h0 h2) (fun t => Admissible.nonneg_p _ _ _ _ _ h1 _) y

end Cert.Proof.Algebraic

end
-- ==== Proof.lean ====
module

public import proofs.«01_k».proof.Proof.Frames
public import proofs.«01_k».proof.Proof.Algebraic

@[expose] public section

noncomputable section

namespace Cert.Proof

/-- Every claim of the certificate: the three frames (those under the precondition follow from the plain ones), the
    idealization, and the equality of the results. -/
theorem claim : Cert.Claim :=
  ⟨Cert.Kernel.Gen.facts, Cert.KernelIdeal.Gen.facts, Cert.ReferenceIdeal.Gen.facts, Frames.preFacts,
    Frames.kernel, Frames.kernelIdeal, fun m g _ => Frames.kernelIdeal m g trivial,
    Frames.referenceIdeal, fun m g _ => Frames.referenceIdeal m g trivial, trivial,
    @Algebraic.algebraic Frames.preFacts⟩

end Cert.Proof

end
